-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x96x224x224 : Shape := ⟨4, ![4, 96, 224, 224]⟩
abbrev S96x96x3x3 : Shape := ⟨4, ![96, 96, 3, 3]⟩
abbrev S4x96x50176 : Shape := ⟨3, ![4, 96, 50176]⟩
abbrev S3x3x96x96 : Shape := ⟨4, ![3, 3, 96, 96]⟩
abbrev S_ : Shape := ⟨0, ![]⟩
abbrev S3x3x128x96 : Shape := ⟨4, ![3, 3, 128, 96]⟩
abbrev S3x384x96 : Shape := ⟨3, ![3, 384, 96]⟩
abbrev S1x96x7168 : Shape := ⟨3, ![1, 96, 7168]⟩
abbrev S1x96x8x224 : Shape := ⟨4, ![1, 96, 8, 224]⟩
abbrev S73728x128 : Shape := ⟨2, ![73728, 128]⟩
abbrev S96x7168 : Shape := ⟨2, ![96, 7168]⟩
abbrev S7168x96 : Shape := ⟨2, ![7168, 96]⟩
abbrev S224x96 : Shape := ⟨2, ![224, 96]⟩
abbrev S32x96 : Shape := ⟨2, ![32, 96]⟩
abbrev S256x96 : Shape := ⟨2, ![256, 96]⟩
abbrev S256x32 : Shape := ⟨2, ![256, 32]⟩
abbrev S256x128 : Shape := ⟨2, ![256, 128]⟩
abbrev S8192x128 : Shape := ⟨2, ![8192, 128]⟩
abbrev S2072x128 : Shape := ⟨2, ![2072, 128]⟩
abbrev S2072x384 : Shape := ⟨2, ![2072, 384]⟩
abbrev S2048x96 : Shape := ⟨2, ![2048, 96]⟩
abbrev S1x384x96 : Shape := ⟨3, ![1, 384, 96]⟩
abbrev S384x96 : Shape := ⟨2, ![384, 96]⟩
abbrev S2072x96 : Shape := ⟨2, ![2072, 96]⟩
abbrev S96x2048 : Shape := ⟨2, ![96, 2048]⟩
abbrev S96x8x256 : Shape := ⟨3, ![96, 8, 256]⟩
abbrev S96x8x224 : Shape := ⟨3, ![96, 8, 224]⟩

abbrev nBuf : Space → Nat
  | .hbm => 11
  | .vmem => 6
  | .smem => 0
  | _ => 0

abbrev bufTy : (tb : Table) → Fin (tcTables nBuf tb) → BufTy
  | .hbm, ⟨0, _⟩ => ⟨S4x96x224x224, .f32⟩
  | .hbm, ⟨1, _⟩ => ⟨S96x96x3x3, .f32⟩
  | .hbm, ⟨2, _⟩ => ⟨S4x96x50176, .f32⟩
  | .hbm, ⟨3, _⟩ => ⟨S3x3x96x96, .f32⟩
  | .hbm, ⟨4, _⟩ => ⟨S_, .i32⟩
  | .hbm, ⟨5, _⟩ => ⟨S_, .f32⟩
  | .hbm, ⟨6, _⟩ => ⟨S3x3x128x96, .f32⟩
  | .hbm, ⟨7, _⟩ => ⟨S3x3x128x96, .f32⟩
  | .hbm, ⟨8, _⟩ => ⟨S3x384x96, .f32⟩
  | .hbm, ⟨9, _⟩ => ⟨S3x384x96, .bf16⟩
  | .hbm, ⟨10, _⟩ => ⟨S4x96x224x224, .f32⟩
  | .local _ .vmem, ⟨0, _⟩ => ⟨S1x96x7168, .f32⟩
  | .local _ .vmem, ⟨1, _⟩ => ⟨S1x96x7168, .f32⟩
  | .local _ .vmem, ⟨2, _⟩ => ⟨S3x384x96, .bf16⟩
  | .local _ .vmem, ⟨3, _⟩ => ⟨S1x96x8x224, .f32⟩
  | .local _ .vmem, ⟨4, _⟩ => ⟨S1x96x8x224, .f32⟩
  | .local _ .vmem, ⟨5, _⟩ => ⟨S73728x128, .bf16⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 37], ![false, false]⟩

def k0_cond1 (i : grid0.Coords) : BitVec 1 :=
  let arg1 : BitVec 32 := BitVec.ofNat 32 (i 1).val
  let c9_i32 : BitVec 32 := 9#32
  let v0 : BitVec 1 := Scalar.cmpi .slt arg1 c9_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c8_i32 : BitVec 32 := 8#32
  let v208 : BitVec 32 := Scalar.minsi arg1 c8_i32
  let c8192_i32 : BitVec 32 := 8192#32
  let v209 : BitVec 32 := Scalar.muli v208 c8192_i32
  let v210 : Index := Scalar.indexCast v209
  let c0_36 : Index := 0#32
  ![v210.toNat, 0]
def k0_cond2 (i : grid0.Coords) : BitVec 1 :=
  let arg1 : BitVec 32 := BitVec.ofNat 32 (i 1).val
  let c9_i32_0 : BitVec 32 := 9#32
  let v3 : BitVec 1 := Scalar.cmpi .sge arg1 c9_i32_0
  let v4 : BitVec 32 := Scalar.extui v3
  let c0_i32_1 : BitVec 32 := 0#32
  let v5 : BitVec 1 := Scalar.cmpi .ne v4 c0_i32_1
  v5

def k0_off2 (i : grid0.Coords) (c0_i32_4 : BitVec 32) : Fin 2 → Nat :=
  let arg1 : BitVec 32 := BitVec.ofNat 32 (i 1).val
  let c9_i32_2 : BitVec 32 := 9#32
  let v6 : BitVec 32 := Scalar.subi arg1 c9_i32_2
  let c0_i32_3 : BitVec 32 := 0#32
  let v7 : BitVec 32 := Scalar.maxsi v6 c0_i32_3
  let c2048_i32 : BitVec 32 := 2048#32
  let v8 : BitVec 32 := Scalar.muli v7 c2048_i32
  let c8192_i32 : BitVec 32 := 8192#32
  let v9 : BitVec 32 := Scalar.addi v8 c8192_i32
  let c256_i32 : BitVec 32 := 256#32
  let v10 : BitVec 32 := Scalar.subi v9 c256_i32
  let c16_i32 : BitVec 32 := 16#32
  let v11 : BitVec 32 := Scalar.subi v10 c16_i32
  let v12 : BitVec 32 := Scalar.addi v11 c0_i32_4
  let v13 : Index := Scalar.indexCast v12
  let c0 : Index := 0#32
  ![v13.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  let c0_i32_1 : BitVec 32 := 0#32
  ![arg0.toNat, c0_i32_0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  let c0_i32_2 : BitVec 32 := 0#32
  ![arg0.toNat, c0_i32_0.toNat, v2.toNat, c0_i32_1.toNat]

abbrev stage0_0 : Fin 2 → Memref sig .tc .vmem S1x96x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x384x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x96x8x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x96x224x224 : Shape := ⟨4, ![4, 96, 224, 224]⟩
abbrev S96x96x3x3 : Shape := ⟨4, ![96, 96, 3, 3]⟩
abbrev S_ : Shape := ⟨0, ![]⟩
abbrev S4x96x226x226 : Shape := ⟨4, ![4, 96, 226, 226]⟩
abbrev S96x96x1x1 : Shape := ⟨4, ![96, 96, 1, 1]⟩
abbrev S96x96 : Shape := ⟨2, ![96, 96]⟩
abbrev S4x224x224x96 : Shape := ⟨4, ![4, 224, 224, 96]⟩

abbrev nBuf : Space → Nat
  | .hbm => 61
  | .vmem => 0
  | .smem => 0
  | _ => 0

abbrev bufTy : (tb : Table) → Fin (tcTables nBuf tb) → BufTy
  | .hbm, ⟨0, _⟩ => ⟨S4x96x224x224, .f32⟩
  | .hbm, ⟨1, _⟩ => ⟨S96x96x3x3, .f32⟩
  | .hbm, ⟨2, _⟩ => ⟨S_, .i32⟩
  | .hbm, ⟨3, _⟩ => ⟨S_, .f32⟩
  | .hbm, ⟨4, _⟩ => ⟨S4x96x226x226, .f32⟩
  | .hbm, ⟨5, _⟩ => ⟨S_, .f32⟩
  | .hbm, ⟨6, _⟩ => ⟨S4x96x224x224, .f32⟩
  | .hbm, ⟨7, _⟩ => ⟨S96x96x1x1, .f32⟩
  | .hbm, ⟨8, _⟩ => ⟨S96x96, .f32⟩
  | .hbm, ⟨9, _⟩ => ⟨S4x96x224x224, .f32⟩
  | .hbm, ⟨10, _⟩ => ⟨S4x224x224x96, .f32⟩
  | .hbm, ⟨11, _⟩ => ⟨S4x96x224x224, .f32⟩
  | .hbm, ⟨12, _⟩ => ⟨S4x96x224x224, .f32⟩
  | .hbm, ⟨13, _⟩ => ⟨S96x96x1x1, .f32⟩
  | .hbm, ⟨14, _⟩ => ⟨S96x96, .f32⟩
  | .hbm, ⟨15, _⟩ => ⟨S4x96x224x224, .f32⟩
  | .hbm, ⟨16, _⟩ => ⟨S4x224x224x96, .f32⟩
  | .hbm, ⟨17, _⟩ => ⟨S4x96x224x224, .f32⟩
  | .hbm, ⟨18, _⟩ => ⟨S4x96x224x224, .f32⟩
  | .hbm, ⟨19, _⟩ => ⟨S96x96x1x1, .f32⟩
  | .hbm, ⟨20, _⟩ => ⟨S96x96, .f32⟩
  | .hbm, ⟨21, _⟩ => ⟨S4x96x224x224, .f32⟩
  | .hbm, ⟨22, _⟩ => ⟨S4x224x224x96, .f32⟩
  | .hbm, ⟨23, _⟩ => ⟨S4x96x224x224, .f32⟩
  | .hbm, ⟨24, _⟩ => ⟨S4x96x224x224, .f32⟩
  | .hbm, ⟨25, _⟩ => ⟨S96x96x1x1, .f32⟩
  | .hbm, ⟨26, _⟩ => ⟨S96x96, .f32⟩
  | .hbm, ⟨27, _⟩ => ⟨S4x96x224x224, .f32⟩
  | .hbm, ⟨28, _⟩ => ⟨S4x224x224x96, .f32⟩
  | .hbm, ⟨29, _⟩ => ⟨S4x96x224x224, .f32⟩
  | .hbm, ⟨30, _⟩ => ⟨S4x96x224x224, .f32⟩
  | .hbm, ⟨31, _⟩ => ⟨S96x96x1x1, .f32⟩
  | .hbm, ⟨32, _⟩ => ⟨S96x96, .f32⟩
  | .hbm, ⟨33, _⟩ => ⟨S4x96x224x224, .f32⟩
  | .hbm, ⟨34, _⟩ => ⟨S4x224x224x96, .f32⟩
  | .hbm, ⟨35, _⟩ => ⟨S4x96x224x224, .f32⟩
  | .hbm, ⟨36, _⟩ => ⟨S4x96x224x224, .f32⟩
  | .hbm, ⟨37, _⟩ => ⟨S96x96x1x1, .f32⟩
  | .hbm, ⟨38, _⟩ => ⟨S96x96, .f32⟩
  | .hbm, ⟨39, _⟩ => ⟨S4x96x224x224, .f32⟩
  | .hbm, ⟨40, _⟩ => ⟨S4x224x224x96, .f32⟩
  | .hbm, ⟨41, _⟩ => ⟨S4x96x224x224, .f32⟩
  | .hbm, ⟨42, _⟩ => ⟨S4x96x224x224, .f32⟩
  | .hbm, ⟨43, _⟩ => ⟨S96x96x1x1, .f32⟩
  | .hbm, ⟨44, _⟩ => ⟨S96x96, .f32⟩
  | .hbm, ⟨45, _⟩ => ⟨S4x96x224x224, .f32⟩
  | .hbm, ⟨46, _⟩ => ⟨S4x224x224x96, .f32⟩
  | .hbm, ⟨47, _⟩ => ⟨S4x96x224x224, .f32⟩
  | .hbm, ⟨48, _⟩ => ⟨S4x96x224x224, .f32⟩
  | .hbm, ⟨49, _⟩ => ⟨S96x96x1x1, .f32⟩
  | .hbm, ⟨50, _⟩ => ⟨S96x96, .f32⟩
  | .hbm, ⟨51, _⟩ => ⟨S4x96x224x224, .f32⟩
  | .hbm, ⟨52, _⟩ => ⟨S4x224x224x96, .f32⟩
  | .hbm, ⟨53, _⟩ => ⟨S4x96x224x224, .f32⟩
  | .hbm, ⟨54, _⟩ => ⟨S4x96x224x224, .f32⟩
  | .hbm, ⟨55, _⟩ => ⟨S96x96x1x1, .f32⟩
  | .hbm, ⟨56, _⟩ => ⟨S96x96, .f32⟩
  | .hbm, ⟨57, _⟩ => ⟨S4x96x224x224, .f32⟩
  | .hbm, ⟨58, _⟩ => ⟨S4x224x224x96, .f32⟩
  | .hbm, ⟨59, _⟩ => ⟨S4x96x224x224, .f32⟩
  | .hbm, ⟨60, _⟩ => ⟨S4x96x224x224, .f32⟩
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩

abbrev nD : Nat := 1
abbrev τ : Topo := Topo.v7x

variable {F : FTy → Type} [FloatOps F]
-- ==== Proof.Setup.lean ====
/-
  What the two runs of the kernel's body share: the two branch conditions in closed form over the grid's points, the
  staging memrefs and the scratch as the pipeline passes them, the block that a staging point writes into the scratch
  (`stagePay`) and the tile that a convolving point writes into the result (`tilePay`).
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Value
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelIdeal.Conv

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points stage and which convolve -/

/-- The point stages a block of the input: the condition of the body's first conditional. -/
abbrev Stages (i : grid0.Coords) : Prop := k0_cond1 i = 1#1

/-- The point convolves a tile: the condition of the body's second conditional. -/
abbrev Convolves (i : grid0.Coords) : Prop := k0_cond2 i = 1#1

/-- The staging points are the first nine of each image's thirty-seven. -/
theorem stages_iff : ∀ t : Fin cfg0.N, Stages (grid0.coords t) ↔ t.val % 37 ≤ 8 :=
  (by decide +kernel : ∀ t : Fin grid0.N, Stages (grid0.coords t) ↔ t.val % 37 ≤ 8)

/-- The convolving points are the other twenty-eight. -/
theorem convolves_iff : ∀ t : Fin cfg0.N, Convolves (grid0.coords t) ↔ 9 ≤ t.val % 37 :=
  (by decide +kernel : ∀ t : Fin grid0.N, Convolves (grid0.coords t) ↔ 9 ≤ t.val % 37)

/-- The result's window is idle at a point that does not convolve. -/
theorem idle_out : ∀ t : Fin cfg0.N, t.val % 37 ≤ 8 → cfg0.idle 2 (grid0.coords t) = true :=
  (by decide +kernel : ∀ t : Fin grid0.N, t.val % 37 ≤ 8 → cfg0.idle 2 (grid0.coords t) = true)

/-- The result's window is not idle at a point that convolves. -/
theorem live_out : ∀ t : Fin cfg0.N, 9 ≤ t.val % 37 → cfg0.idle 2 (grid0.coords t) = false :=
  (by decide +kernel : ∀ t : Fin grid0.N, 9 ≤ t.val % 37 → cfg0.idle 2 (grid0.coords t) = false)

/-- The result's window is written back at the convolving points and at no other. -/
theorem flush_out : ∀ t : Fin cfg0.N, (cfg0.win 2).flush t = true ↔ 9 ≤ t.val % 37 :=
  (by decide +kernel : ∀ t : Fin grid0.N, win0_2.flush t = true ↔ 9 ≤ t.val % 37)

/-- The input's window is never idle. -/
theorem live_x : ∀ t : Fin cfg0.N, cfg0.idle 0 (grid0.coords t) = false := fun _ => rfl

/-- The weights' window is never idle. -/
theorem live_w : ∀ t : Fin cfg0.N, cfg0.idle 1 (grid0.coords t) = false := fun _ => rfl

/-! ## The buffers as the pipeline passes them -/

/-- The input block's buffer at point `t`. -/
abbrev xBuf (t : Fin cfg0.N) : Memref sig .tc .vmem S1x96x7168 .f32 := win0_0.stage (cfg0.slots t 0)

/-- The weights' buffer at point `t`. -/
abbrev wBuf (t : Fin cfg0.N) : Memref sig .tc .vmem S3x384x96 .bf16 := win0_1.stage (cfg0.slots t 1)

/-- The result tile's buffer at point `t`. -/
abbrev oBuf (t : Fin cfg0.N) : Memref sig .tc .vmem S1x96x8x224 .f32 := win0_2.stage (cfg0.slots t 2)

/-- The scratch that holds a whole padded image. -/
abbrev scr : Memref sig .tc .vmem S73728x128 .bf16 := Memref.whole cc0_scratch0

/-- What the pipeline keeps between points, read as: the scratch at some contents and the generator's register. -/
theorem kept_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What a point writes -/

/-- The block that a staging point at coordinates `i` writes into the scratch, from the input block `x0`. -/
def stagePay (i : grid0.Coords) (x0 : Vec F S1x96x7168 .f32) : Vec F S8192x128 .bf16 :=
  k0_pay1 (k0_pay34 (BitVec.ofNat 32 (i 1).val) (k0_pay3 x0) (k0_pay4 x0) (k0_pay5 x0) (k0_pay6 x0) (k0_pay7 x0)
    (k0_pay8 x0) (k0_pay9 x0) (k0_pay10 x0) (k0_pay13 k0_pay11 (k0_pay12 x0)) (k0_pay14 (k0_pay3 x0))
    (k0_pay15 (k0_pay3 x0)) (k0_pay16 (k0_pay3 x0)) (k0_pay17 (k0_pay3 x0)) (k0_pay18 (k0_pay3 x0))
    (k0_pay19 (k0_pay3 x0)) (k0_pay20 (k0_pay3 x0)) (k0_pay21 (k0_pay3 x0)) (k0_pay23 (k0_pay22 (k0_pay3 x0)) 0#32)
    (k0_pay24 (k0_pay3 x0)) (k0_pay25 (k0_pay3 x0)) (k0_pay26 (k0_pay3 x0)) (k0_pay27 (k0_pay3 x0))
    (k0_pay28 (k0_pay3 x0)) (k0_pay29 (k0_pay3 x0)) (k0_pay30 (k0_pay3 x0)) (k0_pay32 (k0_pay3 x0)) k0_pay33)

/-- The scratch's rows that a staging point at coordinates `i` writes. -/
abbrev stageRows (i : grid0.Coords) (h : Stages i) : Rect S73728x128 :=
  Rect.unit (s := S73728x128) (k0_off1 i) S8192x128.size (k0_off1_inb i h)

/-- The three slabs of rows of the scratch that a convolving point at coordinates `i` reads: `k = 0, 1, 2` is the row
    above, the row itself and the row below. -/
abbrev slabRows (i : grid0.Coords) (h : Convolves i) (k : Fin 3) : Rect S73728x128 :=
  Rect.unit (s := S73728x128) (k0_off2 i (BitVec.ofNat 32 (256 * k.val))) S2072x128.size (k0_off2_inb i h k)

/-- The tile that a convolving point writes, from the three slabs `a0 a1 a2` of the scratch and the weights `x1`. -/
def tilePay (a0 a1 a2 : Vec F S2072x128 .bf16) (x1 : Vec F S3x384x96 .bf16) : Vec F S1x96x8x224 .f32 :=
  k0_pay2 (k0_pay35 a0 a1 a2)
    (k0_pay36 a0 a1 a2
      (View.ld x1 (Rect.unit (s := S3x384x96) ![0, 0, 0] S1x384x96.size inb_S3x384x96_S1x384x96_0_0_0))
      (View.ld x1 (Rect.unit (s := S3x384x96) ![1, 0, 0] S1x384x96.size inb_S3x384x96_S1x384x96_1_0_0)))
    (View.ld x1 (Rect.unit (s := S3x384x96) ![2, 0, 0] S1x384x96.size inb_S3x384x96_S1x384x96_2_0_0))

end Cert.KernelIdeal.Conv

end
-- ==== Proof.RunStage.lean ====
/-
  The body at a staging point: it leaves the windows as they were and writes one block into the scratch.
-/
module

public import proofs.«01_k».proof.Proof.Setup

@[expose] public section

set_option maxRecDepth 16384

noncomputable section

namespace Cert.KernelIdeal.Conv

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a staging point the body reads the input block `x0` and ends with the scratch at what it held, the point's rows
    overwritten by `stagePay i x0`; the two inputs and the result's buffer are as they were. -/
theorem run_stage (c : Dev nD) (i : grid0.Coords) (arg2 : Memref sig .tc .vmem S1x96x7168 .f32) (harg2 : arg2.IsWhole)
    (arg3 : Memref sig .tc .vmem S3x384x96 .bf16) (harg3 : arg3.IsWhole) (arg4 : Memref sig .tc .vmem S1x96x8x224 .f32)
    (harg4 : arg4.IsWhole) (arg5 : Memref sig .tc .vmem S73728x128 .bf16) (harg5 : arg5.IsWhole)
    (hc0 : Stages i) (hc1 : ¬Convolves i) (x0 : Vec F S1x96x7168 .f32) (x1 : Vec F S3x384x96 .bf16)
    (y : Vec F S1x96x8x224 .f32) (d : Vec F S73728x128 .bf16) (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare d
        ∗ (iprop(owns (c : Thread nD τ) arg2 fullShare x0 ∗ owns (c : Thread nD τ) arg3 fullShare x1
            ∗ owns (c : Thread nD τ) arg4 fullShare y
            ∗ owns (c : Thread nD τ) arg5 fullShare ((stageRows i hc0).overlay d (stagePay i x0))) -∗ K ⟨⟩))
      ⊢ wp frame (wpE (defs₀ (F := F)) Variants.none c none) E
          (cc0__body i arg2 harg2 arg3 harg3 arg4 harg4 arg5 harg5) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  have hx : View.readAt (Elt F) arg2.view
      (Rect.unit (s := S1x96x7168) ![0, 0, 0] S1x96x7168.size inb_S1x96x7168_S1x96x7168_0_0_0).toLoadRect (harg2.unread x0) = x0 :=
    (funext fun x => harg2.readAt_unread x0 _ x).trans
      (View.ld_unit_zero (funext fun a => by fin_cases a <;> rfl) inb_S1x96x7168_S1x96x7168_0_0_0 x0)
  refine Eq.trans (b := View.read (Elt F) arg5.view (arg5.view.writes (Elt F) fs0
    [⟨stageRows i hc0, stagePay i (View.readAt (Elt F) arg2.view
      (Rect.unit (s := S1x96x7168) ![0, 0, 0] S1x96x7168.size inb_S1x96x7168_S1x96x7168_0_0_0).toLoadRect (harg2.unread x0))⟩])) rfl ?_
  rw [hx]
  funext j
  by_cases hj : j ∈ (stageRows i hc0).set
  · rw [← Rect.map_emb_univ] at hj
    obtain ⟨k, -, rfl⟩ := Finset.mem_map.mp hj
    rw [Rect.overlay_emb]
    exact View.read_writes_cons_emb _ _ _ _ _ k
  · rw [Rect.overlay_of_not_mem _ _ _ hj, ← hfs0]
    exact View.read_writes_cons_miss _ _ ⟨stageRows i hc0, stagePay i x0⟩ [] j hj

end Cert.KernelIdeal.Conv

end
-- ==== Proof.RunConvolve.lean ====
/-
  The body at a convolving point: it leaves the inputs and the scratch as they were and writes one tile of the result.
-/
module

public import proofs.«01_k».proof.Proof.Setup

@[expose] public section

set_option maxRecDepth 16384

noncomputable section

namespace Cert.KernelIdeal.Conv

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a convolving point the body reads three slabs of the scratch `d` and the weights `x1`, and ends with the
    result's buffer at `tilePay` of them; everything else is as it was. -/
theorem run_convolve (c : Dev nD) (i : grid0.Coords) (arg2 : Memref sig .tc .vmem S1x96x7168 .f32) (harg2 : arg2.IsWhole)
    (arg3 : Memref sig .tc .vmem S3x384x96 .bf16) (harg3 : arg3.IsWhole) (arg4 : Memref sig .tc .vmem S1x96x8x224 .f32)
    (harg4 : arg4.IsWhole) (arg5 : Memref sig .tc .vmem S73728x128 .bf16) (harg5 : arg5.IsWhole)
    (hc0 : ¬Stages i) (hc1 : Convolves i) (x0 : Vec F S1x96x7168 .f32) (x1 : Vec F S3x384x96 .bf16)
    (y : Vec F S1x96x8x224 .f32) (d : Vec F S73728x128 .bf16) (E : Set ℕ) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare d
        ∗ (iprop(owns (c : Thread nD τ) arg2 fullShare x0 ∗ owns (c : Thread nD τ) arg3 fullShare x1
            ∗ owns (c : Thread nD τ) arg4 fullShare
                (tilePay (View.ld d (slabRows i hc1 0)) (View.ld d (slabRows i hc1 1)) (View.ld d (slabRows i hc1 2)) x1)
            ∗ owns (c : Thread nD τ) arg5 fullShare d) -∗ K ⟨⟩))
      ⊢ wp frame (wpE (defs₀ (F := F)) Variants.none c none) E
          (cc0__body i arg2 harg2 arg3 harg3 arg4 harg4 arg5 harg5) K := by
  simp only [cc0__body_eq_skeleton]; unfold cc0__body_skel
  simp only [k0_part5_eq_skeleton]
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1
  obtain rfl := harg5.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    have hw : ∀ B : Rect S3x384x96, View.readAt (Elt F) arg3.view B.toLoadRect (harg3.unread x1) = View.ld x1 B :=
      fun B => funext fun x => harg3.readAt_unread x1 _ x
    have hs : ∀ B : Rect S73728x128, View.readAt (Elt F) arg5.view B.toLoadRect (harg5.unread d) = View.ld d B :=
      fun B => funext fun x => harg5.readAt_unread d _ x
    refine (View.read_writes_eq_canon _ _ _ (fun j => ⟨_, List.mem_singleton_self _,
      View.mem_set_unit_zero (funext fun a => by fin_cases a <;> rfl) inb_S1x96x8x224_S1x96x8x224_0_0_0_0 j⟩)).trans ?_
    refine (View.canon_unit_zero (funext fun a => by fin_cases a <;> rfl) inb_S1x96x8x224_S1x96x8x224_0_0_0_0 _).trans ?_
    unfold tilePay
    simp only [← hw, ← hs]
    rfl
  iexists _; isplitr; swap; · iexact HS0
  ipureintro; exact harg5.read_unread _

end Cert.KernelIdeal.Conv

end
-- ==== Proof.Launch.lean ====
/-
  The pipeline's proof data and its run. Between points the scratch holds, on the rows staged so far, the padded image
  of the batch entry in hand (`image`); after a convolving point the result's buffer holds `tile` of that image.
-/
module

public import proofs.«01_k».proof.Proof.RunStage
public import proofs.«01_k».proof.Proof.RunConvolve
public import Idealize.ShloMosaic.Lib.Claim
public import Idealize.ShloMosaic.Lib.ValueIdx

@[expose] public section

set_option maxRecDepth 16384

noncomputable section

namespace Cert.KernelIdeal.Conv

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The padded image -/

/-- The grid's point of batch entry `n` and step `j`. -/
def pt (n j : ℕ) : Fin cfg0.N := ⟨(37 * n + j) % 148, by rw [show cfg0.N = 148 from N_0]; omega⟩

/-- A staging point writes the rows from `8192` times its step on. -/
theorem off_stage : ∀ t : Fin cfg0.N, t.val % 37 ≤ 8 → k0_off1 (grid0.coords t) = ![8192 * (t.val % 37), 0] :=
  (by decide +kernel : ∀ t : Fin grid0.N, t.val % 37 ≤ 8 → k0_off1 (grid0.coords t) = ![8192 * (t.val % 37), 0])

/-- The padded image of batch entry `n` as the scratch holds it: row `r` is row `r % 8192` of the block that step
    `r / 8192` stages. -/
def image (c : Dev nD) (n : ℕ) : Vec F S73728x128 .bf16 := fun j =>
  stagePay (grid0.coords (pt n ((j 0).val / 8192))) (iblk m c 0 (pt n ((j 0).val / 8192)))
    (ix2 ⟨(j 0).val % 8192, Nat.mod_lt _ (by decide)⟩ ⟨(j 1).val, (j 1).isLt⟩)

/-- The tile of the result that point `t` computes. -/
def tile (c : Dev nD) (t : Fin cfg0.N) : Vec F S1x96x8x224 .f32 :=
  if h : Convolves (grid0.coords t) then
    tilePay (View.ld (image m c (t.val / 37)) (slabRows (grid0.coords t) h 0))
      (View.ld (image m c (t.val / 37)) (slabRows (grid0.coords t) h 1))
      (View.ld (image m c (t.val / 37)) (slabRows (grid0.coords t) h 2)) (iblk m c 1 t)
  else Pipeline.Dat.unnamed (cfg := cfg0) 2 t

/-- The scratch `d` holds the image of point `t`'s batch entry on the rows staged before point `t`. -/
def Staged (c : Dev nD) (t : ℕ) (d : Vec F S73728x128 .bf16) : Prop :=
  ∀ j : S73728x128.Idx, (j 0).val < 8192 * min (t % 37) 9 → d j = image m c (t / 37) j

/-- Nothing has been staged when a batch entry begins. -/
theorem staged_start (c : Dev nD) (t : ℕ) (h : t % 37 = 0) (d : Vec F S73728x128 .bf16) : Staged m c t d := by
  intro j hj; rw [h] at hj; simp at hj

/-- From the ninth step on the scratch is the whole image. -/
theorem Staged.eq {c : Dev nD} {t : ℕ} {d : Vec F S73728x128 .bf16} (h : Staged m c t d) (ht : 9 ≤ t % 37) :
    d = image m c (t / 37) := by
  funext j
  have hj : (j 0).val < 73728 := (j 0).isLt
  exact h j (by rw [min_eq_right ht]; omega)

/-- The whole image serves every later point of its batch entry, and the next entry begins with nothing staged. -/
theorem Staged.next {c : Dev nD} {t : ℕ} {d : Vec F S73728x128 .bf16} (h : Staged m c t d) (ht : 9 ≤ t % 37) :
    Staged m c (t + 1) d := by
  by_cases h0 : (t + 1) % 37 = 0
  · exact staged_start m c _ h0 d
  · intro j _
    rw [h.eq m ht, show (t + 1) / 37 = t / 37 by omega]

/-- A staging point adds its block's rows to the image. -/
theorem Staged.stage {c : Dev nD} {t : Fin cfg0.N} {d : Vec F S73728x128 .bf16} (h : Staged m c t.val d)
    (ht : t.val % 37 ≤ 8) (hc : Stages (grid0.coords t)) :
    Staged m c (t.val + 1)
      ((stageRows (grid0.coords t) hc).overlay d (stagePay (grid0.coords t) (iblk m c 0 t))) := by
  have hN : t.val < 148 := lt_of_lt_of_eq t.isLt (show cfg0.N = 148 from N_0)
  have hd : (t.val + 1) / 37 = t.val / 37 := by omega
  have hm : (t.val + 1) % 37 = t.val % 37 + 1 := by omega
  have ho := off_stage t ht
  intro j hj
  rw [hm, min_eq_left (by omega)] at hj
  rw [hd]
  by_cases hmem : j ∈ (stageRows (grid0.coords t) hc).set
  · rw [← Rect.map_emb_univ] at hmem
    obtain ⟨k, -, rfl⟩ := Finset.mem_map.mp hmem
    rw [Rect.overlay_emb]
    have hk : (k 0).val < 8192 := (k 0).isLt
    have e0 : ((stageRows (grid0.coords t) hc).emb k 0).val = 8192 * (t.val % 37) + (k 0).val := by
      show k0_off1 (grid0.coords t) 0 + 1 * (k 0).val = _
      rw [ho, Nat.one_mul]; rfl
    have e1 : ((stageRows (grid0.coords t) hc).emb k 1).val = (k 1).val := by
      show k0_off1 (grid0.coords t) 1 + 1 * (k 1).val = _
      rw [ho, Nat.one_mul]; exact Nat.zero_add _
    have ep : pt (t.val / 37) (((stageRows (grid0.coords t) hc).emb k 0).val / 8192) = t := by
      apply Fin.ext; unfold pt; show (37 * (t.val / 37) + _) % 148 = t.val
      rw [e0, show (8192 * (t.val % 37) + (k 0).val) / 8192 = t.val % 37 by omega]; omega
    unfold image
    rw [ep]
    refine congrArg _ (funext fun a => Fin.ext ?_)
    fin_cases a
    · show (k 0).val = ((stageRows (grid0.coords t) hc).emb k 0).val % 8192
      rw [e0]; omega
    · exact e1.symm
  · rw [Rect.overlay_of_not_mem _ _ _ hmem]
    refine h j ?_
    rw [min_eq_left (by omega)]
    by_contra hlt
    have hge : 8192 * (t.val % 37) ≤ (j 0).val := by omega
    apply hmem
    rw [← Rect.map_emb_univ]
    refine Finset.mem_map.mpr ⟨ix2 ⟨(j 0).val - 8192 * (t.val % 37), by omega⟩ ⟨(j 1).val, (j 1).isLt⟩,
      Finset.mem_univ _, funext fun a => Fin.ext ?_⟩
    fin_cases a
    · show k0_off1 (grid0.coords t) 0 + 1 * ((j 0).val - 8192 * (t.val % 37)) = (j 0).val
      rw [ho]; show 8192 * (t.val % 37) + _ = _; omega
    · show k0_off1 (grid0.coords t) 1 + 1 * (j 1).val = (j 1).val
      rw [ho]; show 0 + _ = _; omega

/-! ## The proof data -/

/-- The pipeline's proof data on core `c`: each input's buffer at its block, the result's at `tile`; between points the
    scratch at contents `Staged` describes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile m c t
  Φ t := iprop((∃ d, ⌜Staged m c t.val d⌝ ∗ owns (c : Thread nD τ) scr fullShare d) ∗ (∃ r, prngReg c r))
  q _ := fullShare
  owed _ := 0

/-- The arrays are as the region finds them. -/
theorem A_eq (c : Dev nD) (w : Fin cfg0.W) : (dats m 0 c).A w = V m c (Pipeline.arrRef spec0 w) := by
  dsimp only [dats]

/-- The input's buffer is left at its block. -/
theorem after_x (c : Dev nD) (t : Fin cfg0.N) : (dats m 0 c).after 0 t = iblk m c 0 t := by dsimp only [dats]

/-- The weights' buffer is left at its block. -/
theorem after_w (c : Dev nD) (t : Fin cfg0.N) : (dats m 0 c).after 1 t = iblk m c 1 t := by dsimp only [dats]

/-- The result's buffer is left at the tile. -/
theorem after_out (c : Dev nD) (t : Fin cfg0.N) : (dats m 0 c).after 2 t = tile m c t := by dsimp only [dats]

/-- The input's buffer holds its block at every point. -/
theorem before_x (c : Dev nD) (t : Fin cfg0.N) (d) : (dats m 0 c).before 0 t d = iblk m c 0 t :=
  before0_0_of m (dats m 0 c) (A_eq m c 0) (after_x m c) t d

/-- The weights' buffer holds its block at every point. -/
theorem before_w (c : Dev nD) (t : Fin cfg0.N) (d) : (dats m 0 c).before 1 t d = iblk m c 1 t :=
  before0_1_of m (dats m 0 c) (A_eq m c 1) (after_w m c) t d

/-- What the pipeline keeps between points. -/
theorem kept_dats (c : Dev nD) (t : Fin (cfg0.N + 1)) : (dats m 0 c).Φ t
    = iprop((∃ d, ⌜Staged m c t.val d⌝ ∗ owns (c : Thread nD τ) scr fullShare d) ∗ (∃ r, prngReg c r)) := by
  dsimp only [dats]

/-! ## The body at any point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (xBuf t) fullShare ((dats m 0 c).before 0 t d))
    ∗ (∃ d, owns (c : Thread nD τ) (wBuf t) fullShare ((dats m 0 c).before 1 t d))
    ∗ (∃ d, owns (c : Thread nD τ) (oBuf t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 800000 in
/-- The body at any point takes what the pipeline hands it to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).owesAt () t.succ = (dats m 0 c).owesAt () t.castSucc from rfl, kept_dats, kept_dats]
  rw [show (dats m 0 c).leavesExact 0 t = owns (c : Thread nD τ) (xBuf t) fullShare ((dats m 0 c).after 0 t) from by
    unfold Dat.leavesExact; rw [live_x t], after_x]
  rw [show (dats m 0 c).leavesExact 1 t = owns (c : Thread nD τ) (wBuf t) fullShare ((dats m 0 c).after 1 t) from by
    unfold Dat.leavesExact; rw [live_w t], after_w]
  have es : t.succ.val = t.val + 1 := rfl
  have ec : t.castSucc.val = t.val := rfl
  rw [es, ec]
  by_cases h0 : t.val % 37 ≤ 8
  · have hf : (cfg0.win 2).flush t = false := by
      rw [← Bool.not_eq_true, flush_out]; omega
    rw [show (dats m 0 c).leavesExact 2 t
        = iprop(∃ d, owns (c : Thread nD τ) (oBuf t) fullShare ((dats m 0 c).before 2 t d)) from by
      unfold Dat.leavesExact; rw [idle_out t h0, hf]]
    iintro ⟨⟨⟨%d, %hd, HS⟩, Hg⟩, Ho, ⟨%d0, H0⟩, ⟨%d1, H1⟩, ⟨%d2, H2⟩⟩
    iapply (run_stage c (grid0.coords t) _ _ _ _ _ _ _ _ ((stages_iff t).mpr h0)
      (fun h => absurd ((convolves_iff t).mp h) (by omega)) (iblk m c 0 t) (iblk m c 1 t) _ d Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; isplitr; swap; · iexact HS
        ipureintro; exact hd.stage m h0 _
      iexact Hg
    isplitl [Ho]; · iexact Ho
    isplitl [H0]; · iexact H0
    isplitl [H1]; · iexact H1
    iexists _; iexact H2
  · have h1 : 9 ≤ t.val % 37 := by omega
    rw [show (dats m 0 c).leavesExact 2 t = owns (c : Thread nD τ) (oBuf t) fullShare ((dats m 0 c).after 2 t) from by
      unfold Dat.leavesExact; rw [live_out t h1], after_out]
    have hc1 := (convolves_iff t).mpr h1
    iintro ⟨⟨⟨%d, %hd, HS⟩, Hg⟩, Ho, ⟨%d0, H0⟩, ⟨%d1, H1⟩, ⟨%d2, H2⟩⟩
    iapply (run_convolve c (grid0.coords t) _ _ _ _ _ _ _ _ (fun h => h0 ((stages_iff t).mp h)) hc1
      (iblk m c 0 t) (iblk m c 1 t) _ d Set.univ _)
    isplitl [H0]; · iexact H0
    isplitl [H1]; · iexact H1
    isplitl [H2]; · iexact H2
    isplitl [HS]; · iexact HS
    have ht : tile m c t = tilePay (View.ld d (slabRows (grid0.coords t) hc1 0))
        (View.ld d (slabRows (grid0.coords t) hc1 1)) (View.ld d (slabRows (grid0.coords t) hc1 2)) (iblk m c 1 t) := by
      unfold tile; rw [dif_pos hc1, hd.eq m h1]
    rw [ht]
    iintro ⟨H0, H1, H2, HS⟩
    isplitl [HS Hg]
    · isplitl [HS]
      · iexists _; isplitr; swap; · iexact HS
        ipureintro; exact hd.next m h1
      iexact Hg
    isplitl [Ho]; · iexact Ho
    isplitl [H0]; · iexact H0
    isplitl [H1]; · iexact H1
    iexact H2

/-- The body table's row at point `t` is the body on the buffers of that point. -/
theorem defs₀_row (t : Fin cfg0.N) :
    defs₀ (F := F) .tc cfg0.body (cfg0.bodyArgs t (cfg0.slots t)) = bodyAt0 t := by
  unfold defs₀; rw [Defs.onTc_tc]

/-- The body meets the proof data at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution terminates, with each array as the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [kept_eq, kept_dats]
      iintro ⟨⟨%d, H⟩, Hg⟩
      isplitl [H]
      · iexists d; isplitr; · ipureintro; exact staged_start m c _ rfl d
        iexact H
      iexact Hg)
    (hout := fun c => by
      rw [kept_eq, kept_dats]
      iintro ⟨⟨%d, %hd, H⟩, Hg⟩
      isplitl [H]
      · iexists d; iexact H
      iexact Hg)

/-- Every execution of the kernel terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Conv

end
-- ==== Proof.StageValue.lean ====
/-
  What a staging point writes, read at an index (exact reals): row `q` of its block is pixel `q % 256` of the block's image
  row `q / 256`, with zeros from pixel 224 on, on the channels from 96 on, and wherever the step holds no image rows.
-/
module

public import proofs.«01_k».proof.Proof.Setup
public import Idealize.ShloMosaic.Lib.ValueIdx
public import Idealize.ShloMosaic.Lib.KernelVsHost
public import Idealize.ShloMosaic.PureOps.Ideal.Laws

@[expose] public section

set_option maxRecDepth 16384

noncomputable section

namespace Cert.KernelIdeal.Conv

open Cert.KernelIdeal.Gen
open Idealize.ShloMosaic Idealize.ShloMosaic.TcCoe Idealize.ShloMosaic.ValueIdx

/-- The rows of image row `h` lie within the block's pixels. -/
theorem slices_piece (h : Fin 32) : S7168x96.Slices ![224 * h.val, 0] S224x96 := by
  refine ⟨rfl, fun a => ?_⟩
  fin_cases a
  · show 224 * h.val + 224 ≤ 7168; omega
  · show 0 + 96 ≤ 96; omega

section AnyFloat

variable {F : FTy → Type} [FloatOps F]

/-- Image row `h` of a block, padded to 256 pixels and 128 channels. -/
def piece (v : FVec F S7168x96 .f32) (h : Fin 32) : FVec F S256x128 .f32 :=
  concatenate S256x128 1
    [⟨S256x96, concatenate S256x96 0
      [⟨S224x96, extractStridedSlice S224x96 ![224 * h.val, 0] v (slices_piece h)⟩,
       ⟨S32x96, broadcast S32x96 (Scalar.sitofp .f32 0#32 : F .f32)⟩] concatenates_S224x96_S32x96_S256x96_d0⟩,
     ⟨S256x32, broadcast S256x32 (Scalar.sitofp .f32 0#32 : F .f32)⟩] concatenates_S256x96_S256x32_S256x128_d1

/-- Thirty-two padded rows stack to a block. -/
theorem rows_stack (v : FVec F S7168x96 .f32) :
    Shape.Concatenates ((List.ofFn fun h : Fin 32 => (⟨S256x128, piece v h⟩ : (s : Shape) × (s.Idx → F .f32))).map (·.1))
      S8192x128 0 := by
  have h : ((List.ofFn fun h : Fin 32 => (⟨S256x128, piece v h⟩ : (s : Shape) × (s.Idx → F .f32))).map (·.1))
      = List.replicate 32 S256x128 := by
    rw [List.map_ofFn]; exact List.ofFn_const 32 S256x128
  rw [h]
  exact concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S8192x128_d0

/-- The word of a step is between one and seven exactly when the step is. -/
theorem stepWord : ∀ k : Fin 37,
    Scalar.andi (Scalar.cmpi .sge (BitVec.ofNat 32 k.val) 1#32) (Scalar.cmpi .sle (BitVec.ofNat 32 k.val) 7#32)
      = if 1 ≤ k.val ∧ k.val ≤ 7 then 1#1 else 0#1 := by decide

/-- A staging point's block: the stacked padded rows on steps one to seven, zeros on the others. -/
theorem stagePay_eq (i : grid0.Coords) (x0 : Vec F S1x96x7168 .f32) :
    stagePay i x0 = shapeCast S8192x128 (truncf .bf16 (Scalar.select
      (Scalar.andi (Scalar.cmpi .sge (BitVec.ofNat 32 (i 1).val) 1#32) (Scalar.cmpi .sle (BitVec.ofNat 32 (i 1).val) 7#32))
      (concatenate S8192x128 0
        (List.ofFn fun h : Fin 32 => (⟨S256x128, piece (k0_pay3 x0) h⟩ : (s : Shape) × (s.Idx → F .f32)))
        (rows_stack (k0_pay3 x0)))
      (broadcast S8192x128 (Scalar.ofBits .f32 0x00000000#32 : F .f32))) bitsLt_bf16_f32)
      shapeCasts_S8192x128_S8192x128 := rfl

end AnyFloat

/-- The block's pixels as the kernel transposes them: row `r` and column `ch` is pixel `r` of channel `ch`. -/
theorem pixels_apply (x0 : Vec Ideal S1x96x7168 .f32) (r : Fin 7168) (ch : Fin 96) :
    k0_pay3 x0 (ix2 r ch) = x0 (ix3 (0 : Fin 1) ch r) := by
  show transpose S7168x96 [1, 0] (shapeCast S96x7168 x0 _) _ (ix2 r ch) = _
  rw [transpose_apply [1, 0] _ _ (ix2 r ch) (ix2 ch r) (fun b => by fin_cases b <;> rfl)]
  refine shapeCast_apply x0 _ (ix2 ch r) (ix3 (0 : Fin 1) ch r) ?_
  rw [Shape.rowMajor_val_three, Shape.rowMajor_val_two]
  show (0 * 96 + ch.val) * 7168 + r.val = ch.val * 7168 + r.val
  omega

/-- A padded image row: its pixels where it has them, zeros elsewhere. -/
theorem piece_apply (v : FVec Ideal S7168x96 .f32) (h : Fin 32) (w : Fin 256) (ch : Fin 128) :
    piece v h (ix2 w ch) = if hh : w.val < 224 ∧ ch.val < 96 then
      v (ix2 ⟨224 * h.val + w.val, by omega⟩ ⟨ch.val, hh.2⟩) else 0 := by
  unfold piece
  by_cases hc : ch.val < 96
  · rw [concatenate_pair_apply_left (s₁ := S256x96) (s₂ := S256x32) 1 _ _ _ (ix2 w ch) rfl (ix2 w (⟨ch.val, hc⟩ : Fin 96)) (fun b => by fin_cases b <;> rfl)]
    by_cases hw : w.val < 224
    · rw [concatenate_pair_apply_left (s₁ := S224x96) (s₂ := S32x96) 0 _ _ _ (ix2 w (⟨ch.val, hc⟩ : Fin 96)) rfl (ix2 (⟨w.val, hw⟩ : Fin 224) (⟨ch.val, hc⟩ : Fin 96))
        (fun b => by fin_cases b <;> rfl), dif_pos ⟨hw, hc⟩]
      exact extractStridedSlice_apply _ v _ _ (ix2 ⟨224 * h.val + w.val, by omega⟩ ⟨ch.val, hc⟩)
        (fun a => by fin_cases a <;> first | rfl | exact (Nat.zero_add _).symm)
    · rw [concatenate_pair_apply_right (s₁ := S224x96) (s₂ := S32x96) 0 _ _ _ (ix2 w (⟨ch.val, hc⟩ : Fin 96)) rfl rfl
        (ix2 (⟨w.val - 224, by omega⟩ : Fin 32) (⟨ch.val, hc⟩ : Fin 96))
        (fun b hb => by fin_cases b <;> first | rfl | exact absurd rfl hb)
        (by show w.val - 224 + 224 = w.val; omega), dif_neg (fun hh => hw hh.1)]
      exact sitofp_zero
  · rw [concatenate_pair_apply_right (s₁ := S256x96) (s₂ := S256x32) 1 _ _ _ (ix2 w ch) rfl rfl (ix2 w (⟨ch.val - 96, by omega⟩ : Fin 32))
        (fun b hb => by fin_cases b <;> first | rfl | exact absurd rfl hb)
        (by show ch.val - 96 + 96 = ch.val; omega), dif_neg (fun hh => hc hh.2)]
    exact sitofp_zero

/-- What a staging point writes at row `q` and channel `ch`. -/
theorem stagePay_apply (i : grid0.Coords) (x0 : Vec Ideal S1x96x7168 .f32) (q : Fin 8192) (ch : Fin 128) :
    stagePay i x0 (ix2 q ch) =
      if hh : (1 ≤ (i 1).val ∧ (i 1).val ≤ 7) ∧ q.val % 256 < 224 ∧ ch.val < 96 then
        x0 (ix3 (0 : Fin 1) ⟨ch.val, hh.2.2⟩ ⟨224 * (q.val / 256) + q.val % 256, by omega⟩) else 0 := by
  rw [stagePay_eq, shapeCast_self, ValueIdx.truncf_apply, stepWord ⟨(i 1).val, (i 1).isLt⟩]
  by_cases hi : 1 ≤ (i 1).val ∧ (i 1).val ≤ 7
  · rw [if_pos hi, select_one,
      concatenate_ofFn_apply (0 : Fin S8192x128.rank) (piece (k0_pay3 x0)) _ rfl 256 rfl (ix2 q ch)
        ⟨q.val / 256, by omega⟩ rfl (ix2 ⟨q.val % 256, by omega⟩ ch) rfl
        (fun b hb => by fin_cases b <;> first | rfl | exact absurd rfl hb), piece_apply]
    by_cases hq : q.val % 256 < 224 ∧ ch.val < 96
    · rw [dif_pos hq, dif_pos ⟨hi, hq⟩, pixels_apply]
    · rw [dif_neg hq, dif_neg (fun hh => hq hh.2)]
  · rw [if_neg hi, select_zero, dif_neg (fun hh => hi hh.1)]
    exact Ideal.ofBits_zero_f32

end Cert.KernelIdeal.Conv
-- ==== Proof.HostValue.lean ====
/-
  The arrays that the pipeline reads, at an index (exact reals): the images flattened to pixels, and the weights laid out
  as three matrices, one per column of the window, whose 384 rows are three runs of 128 channels of which the last 32 are
  zeros.
-/
module

public import proofs.«01_k».proof.Proof.Setup
public import Idealize.ShloMosaic.Lib.ValueIdx
public import Idealize.ShloMosaic.Lib.KernelVsHost
public import Idealize.ShloMosaic.PureOps.Ideal.Laws

@[expose] public section

set_option maxRecDepth 16384

noncomputable section

namespace Cert.KernelIdeal.Conv

open Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ)

/-- The images. -/
abbrev images (c : Dev nD) : Vec Ideal S4x96x224x224 .f32 := m ((c : Thread nD τ).loc main_arg0)
/-- The weights. -/
abbrev weights (c : Dev nD) : Vec Ideal S96x96x3x3 .f32 := m ((c : Thread nD τ).loc main_arg1)

/-- The first array is the images, each channel's rows flattened. -/
theorem V_images (c : Dev nD) : (V m c main_v0 : Vec Ideal S4x96x50176 .f32)
    = shapeCast S4x96x50176 (images m c) shapeCasts_S4x96x224x224_S4x96x50176 := by
  show StableHlo.after (List.flatten [hostOps0, hostOps0_1, hostOps0_2]) _ (Proc.devRef .tc main_v0) = _
  simp only [hostOps0, hostOps0_1, hostOps0_2, List.flatten_cons, List.flatten_nil, List.append_nil, List.cons_append,
    List.nil_append]
  after_results
  rfl

/-- The second array is the weights, transposed, padded with zero channels, transposed again and flattened. -/
theorem V_weights (c : Dev nD) : (V m c main_v5 : Vec Ideal S3x384x96 .bf16)
    = (truncf .bf16 (shapeCast S3x384x96 (transpose S3x3x128x96 [1, 0, 2, 3]
        (pad S3x3x128x96 ![0, 0, 0, 0] ![0, 0, 32, 0] ![0, 0, 0, 0]
          (transpose S3x3x96x96 [2, 3, 1, 0] (weights m c) transposes_S96x96x3x3_S3x3x96x96_2_3_1_0)
          (sitofp .f32 (constantI S_ 32 0#32)) pads_S3x3x96x96_S3x3x128x96_000_000_0320_000 h_S_)
        transposes_S3x3x128x96_S3x3x128x96_1_0_2_3) shapeCasts_S3x3x128x96_S3x384x96) bitsLt_bf16_f32 :
        FVec Ideal S3x384x96 .bf16) := by
  show StableHlo.after (List.flatten [hostOps0, hostOps0_1, hostOps0_2]) _ (Proc.devRef .tc main_v5) = _
  simp only [hostOps0, hostOps0_1, hostOps0_2, List.flatten_cons, List.flatten_nil, List.append_nil, List.cons_append,
    List.nil_append]
  after_results
  rfl

/-- Pixel `224 h + w` of a flattened channel is the image's pixel at `h`, `w`. -/
theorem V_images_apply (c : Dev nD) (n : Fin 4) (ch : Fin 96) (r : Fin 50176) :
    (V m c main_v0 : Vec Ideal S4x96x50176 .f32) (ix3 n ch r)
      = images m c (ix4 n ch (⟨r.val / 224, by omega⟩ : Fin 224) (⟨r.val % 224, by omega⟩ : Fin 224)) := by
  rw [V_images]
  refine shapeCast_apply _ _ _ _ ?_
  rw [Shape.rowMajor_val_four, Shape.rowMajor_val_three]
  show ((n.val * 96 + ch.val) * 224 + r.val / 224) * 224 + r.val % 224 = (n.val * 96 + ch.val) * 50176 + r.val
  omega

/-- Matrix `kw` at row `128 kh + ch` and column `o` is the weight of output `o`, channel `ch` and window place `kh`, `kw`;
    zero on the padding channels. -/
theorem V_weights_apply (c : Dev nD) (kw kh : Fin 3) (ch : Fin 128) (o : Fin 96) :
    (V m c main_v5 : Vec Ideal S3x384x96 .bf16) (ix3 kw (⟨128 * kh.val + ch.val, by omega⟩ : Fin 384) o)
      = if h : ch.val < 96 then weights m c (ix4 o (⟨ch.val, h⟩ : Fin 96) kh kw) else 0 := by
  rw [V_weights, ValueIdx.truncf_apply]
  rw [shapeCast_apply _ _ _ (ix4 kw kh ch o) (by
    rw [Shape.rowMajor_val_four, Shape.rowMajor_val_three]
    show ((kw.val * 3 + kh.val) * 128 + ch.val) * 96 + o.val = (kw.val * 384 + (128 * kh.val + ch.val)) * 96 + o.val
    omega)]
  rw [transpose_apply [1, 0, 2, 3] _ _ (ix4 kw kh ch o) (ix4 kh kw ch o) (fun b => by fin_cases b <;> rfl)]
  by_cases h : ch.val < 96
  · rw [dif_pos h, pad_apply_of_inside ![0, 0, 0, 0] ![0, 0, 32, 0] ![0, 0, 0, 0] _ _ _ _ (ix4 kh kw ch o)
      (ix4 kh kw (⟨ch.val, h⟩ : Fin 96) o) (fun a => by
        fin_cases a
        · show kh.val = 0 + kh.val * (0 + 1); omega
        · show kw.val = 0 + kw.val * (0 + 1); omega
        · show ch.val = 0 + ch.val * (0 + 1); omega
        · show o.val = 0 + o.val * (0 + 1); omega)]
    exact transpose_apply [2, 3, 1, 0] _ _ _ (ix4 o (⟨ch.val, h⟩ : Fin 96) kh kw) (fun b => by fin_cases b <;> rfl)
  · rw [dif_neg h]
    refine (pad_apply_of_not_inside (s := S3x3x96x96) ![0, 0, 0, 0] ![0, 0, 32, 0] ![0, 0, 0, 0] _ _ _ _ (ix4 kh kw ch o)
      (2 : Fin 4) (fun hh => ?_)).trans (sitofp_zero (φ := .f32))
    have e : (ch.val - 0) / (0 + 1) < 96 := hh.2.2
    omega

/-- The block of the images at a staging point that holds image rows. -/
theorem index_images : ∀ t : Fin cfg0.N, 1 ≤ t.val % 37 ∧ t.val % 37 ≤ 7 →
    (win0 0).index t 0 = t.val / 37 ∧ (win0 0).index t 1 = 0 ∧ (win0 0).index t 2 = t.val % 37 - 1 :=
  (by decide +kernel : ∀ t : Fin grid0.N, 1 ≤ t.val % 37 ∧ t.val % 37 ≤ 7 →
    (win0 0).index t 0 = t.val / 37 ∧ (win0 0).index t 1 = 0 ∧ (win0 0).index t 2 = t.val % 37 - 1)

/-- The block of the weights is all of them. -/
theorem index_weights : ∀ t : Fin cfg0.N,
    (win0 1).index t 0 = 0 ∧ (win0 1).index t 1 = 0 ∧ (win0 1).index t 2 = 0 :=
  (by decide +kernel : ∀ t : Fin grid0.N, (win0 1).index t 0 = 0 ∧ (win0 1).index t 1 = 0 ∧ (win0 1).index t 2 = 0)

/-- The block of images that a staging point reads: thirty-two image rows of its batch entry. -/
theorem block_images (c : Dev nD) (t : Fin cfg0.N) (h : 1 ≤ t.val % 37 ∧ t.val % 37 ≤ 7) (ch : Fin 96) (r : Fin 7168) :
    (iblk m c 0 t : Vec Ideal S1x96x7168 .f32) (ix3 (0 : Fin 1) ch r)
      = images m c (ix4 (⟨t.val / 37, by have := lt_of_lt_of_eq t.isLt (show cfg0.N = 148 from N_0); omega⟩ : Fin 4) ch
          (⟨32 * (t.val % 37 - 1) + r.val / 224, by omega⟩ : Fin 224) (⟨r.val % 224, by omega⟩ : Fin 224)) := by
  have hN := lt_of_lt_of_eq t.isLt (show cfg0.N = 148 from N_0)
  obtain ⟨i0, i1, i2⟩ := index_images t h
  have e : (iblk m c 0 t : Vec Ideal S1x96x7168 .f32) (ix3 (0 : Fin 1) ch r)
      = (V m c main_v0 : Vec Ideal S4x96x50176 .f32) (ix3 (⟨t.val / 37, by omega⟩ : Fin 4) ch
          (⟨7168 * (t.val % 37 - 1) + r.val, by omega⟩ : Fin 50176)) := by
    show (V m c main_v0 : Vec Ideal S4x96x50176 .f32) (((win0 0).rect t).emb (ix3 (0 : Fin 1) ch r)) = _
    refine congrArg _ (funext fun a => Fin.ext ?_)
    rw [Pipeline.Window.rect_emb_val (win0 0)]
    fin_cases a
    · show (win0 0).index t 0 * 1 + 0 = t.val / 37
      rw [i0]; omega
    · show (win0 0).index t 1 * 96 + ch.val = ch.val
      rw [i1]; omega
    · show (win0 0).index t 2 * 7168 + r.val = 7168 * (t.val % 37 - 1) + r.val
      rw [i2]; omega
  rw [e, V_images_apply]
  refine congrArg _ (funext fun a => Fin.ext ?_)
  fin_cases a
  · rfl
  · rfl
  · show (7168 * (t.val % 37 - 1) + r.val) / 224 = 32 * (t.val % 37 - 1) + r.val / 224
    omega
  · show (7168 * (t.val % 37 - 1) + r.val) % 224 = r.val % 224
    omega

/-- The block of weights that every point reads is the whole array. -/
theorem block_weights (c : Dev nD) (t : Fin cfg0.N) (i : S3x384x96.Idx) :
    (iblk m c 1 t : Vec Ideal S3x384x96 .bf16) i = (V m c main_v5 : Vec Ideal S3x384x96 .bf16) i := by
  obtain ⟨i0, i1, i2⟩ := index_weights t
  show (V m c main_v5 : Vec Ideal S3x384x96 .bf16) (((win0 1).rect t).emb i) = _
  refine congrArg _ (funext fun a => Fin.ext ?_)
  rw [Pipeline.Window.rect_emb_val (win0 1)]
  fin_cases a
  · show (win0 1).index t 0 * 3 + (i 0).val = (i 0).val
    rw [i0]; omega
  · show (win0 1).index t 1 * 384 + (i 1).val = (i 1).val
    rw [i1]; omega
  · show (win0 1).index t 2 * 96 + (i 2).val = (i 2).val
    rw [i2]; omega

end Cert.KernelIdeal.Conv
-- ==== Proof.Sum.lean ====
/-
  The convolution as a sum, over any two arrays of the arguments' shapes: what both programs are shown to compute.
-/
module

public import Idealize.ShloMosaic.PureOps.Ideal.Laws
public import Idealize.ShloMosaic.Lib.ValueIdx

@[expose] public section

noncomputable section

namespace Cert.ConvSum

open Idealize.ShloMosaic Idealize.ShloMosaic.ValueIdx

/-- Channel `ch` of image `n` with a border of zeros one pixel wide, read at row `h` and column `w` counted from the
    border; zero everywhere else. -/
def padded (x : (⟨4, ![4, 96, 224, 224]⟩ : Shape).Idx → EReal) (n : Fin 4) (ch : Fin 96) (h w : ℕ) : EReal :=
  if hh : (1 ≤ h ∧ h ≤ 224) ∧ 1 ≤ w ∧ w ≤ 224 then
    x (ix4 n ch (⟨h - 1, by omega⟩ : Fin 224) (⟨w - 1, by omega⟩ : Fin 224)) else 0

/-- What place `kh`, `kw` of the window adds to output `o` at row `h` and column `w` of image `n`. -/
def term (x : (⟨4, ![4, 96, 224, 224]⟩ : Shape).Idx → EReal) (y : (⟨4, ![96, 96, 3, 3]⟩ : Shape).Idx → EReal)
    (n : Fin 4) (o : Fin 96) (h w : ℕ) (kh kw : Fin 3) : EReal :=
  ∑ ch : Fin 96, padded x n ch (h + kh.val) (w + kw.val) * y (ix4 o ch kh kw)

/-- The convolution: the nine places of the window added up. -/
def conv (x : (⟨4, ![4, 96, 224, 224]⟩ : Shape).Idx → EReal) (y : (⟨4, ![96, 96, 3, 3]⟩ : Shape).Idx → EReal) :
    (⟨4, ![4, 96, 224, 224]⟩ : Shape).Idx → EReal := fun i =>
  ∑ kw : Fin 3, ∑ kh : Fin 3, term x y (i 0) (i 1) (i 2).val (i 3).val kh kw

end Cert.ConvSum
-- ==== Proof.ImageValue.lean ====
/-
  What the scratch holds, read at an index (exact reals): an image row is 256 rows of the scratch, and the scratch's row
  just before `256 (31 + H) + W` is the padded image's row `H` and column `W`.
-/
module

public import proofs.«01_k».proof.Proof.Launch
public import proofs.«01_k».proof.Proof.StageValue
public import proofs.«01_k».proof.Proof.HostValue
public import proofs.«01_k».proof.Proof.Sum

@[expose] public section

set_option maxRecDepth 16384

noncomputable section

namespace Cert.KernelIdeal.Conv

open Cert.KernelIdeal.Gen Cert.ConvSum
open Idealize.ShloMosaic Idealize.ShloMosaic.TcCoe Idealize.ShloMosaic.ValueIdx
open Idealize.SL.Sem

variable (m : (ℓ : Loc nD τ sig) → Buf (Elt Ideal) ℓ)

/-- The second coordinate of a point is its step within the batch entry. -/
theorem step_val : ∀ t : Fin cfg0.N, (grid0.coords t 1).val = t.val % 37 :=
  (by decide +kernel : ∀ t : Fin grid0.N, (grid0.coords t 1).val = t.val % 37)

/-- The scratch at a row of the padded image: the pixel on the true channels, zero on the padding ones. -/
theorem image_apply (c : Dev nD) (n : Fin 4) (r : Fin 73728) (ch : Fin 128) (H W : ℕ) (hH : H ≤ 225) (hW : W ≤ 225)
    (hr : r.val + 1 = 256 * (31 + H) + W) :
    image m c n.val (ix2 r ch) = if h : ch.val < 96 then padded (images m c) n ⟨ch.val, h⟩ H W else 0 := by
  have ht : (pt n.val (r.val / 8192)).val = 37 * n.val + r.val / 8192 := by
    unfold pt; show (37 * n.val + r.val / 8192) % 148 = _; omega
  have hs : (grid0.coords (pt n.val (r.val / 8192)) 1).val = r.val / 8192 := by
    rw [step_val, ht]; omega
  show stagePay (grid0.coords (pt n.val (r.val / 8192))) (iblk m c 0 (pt n.val (r.val / 8192)))
    (ix2 (⟨r.val % 8192, _⟩ : Fin 8192) (⟨ch.val, _⟩ : Fin 128)) = _
  rw [stagePay_apply]
  by_cases hc : ch.val < 96
  · rw [dif_pos hc]
    unfold padded
    by_cases hh : (1 ≤ H ∧ H ≤ 224) ∧ 1 ≤ W ∧ W ≤ 224
    · rw [dif_pos hh, dif_pos ⟨by rw [hs]; omega, (by omega : r.val % 8192 % 256 < 224), hc⟩, block_images m c _ (by rw [ht]; omega)]
      refine congrArg _ (funext fun a => Fin.ext ?_)
      fin_cases a
      · show (pt n.val (r.val / 8192)).val / 37 = n.val
        rw [ht]; omega
      · rfl
      · show 32 * ((pt n.val (r.val / 8192)).val % 37 - 1) + (224 * (r.val % 8192 / 256) + r.val % 8192 % 256) / 224 = H - 1
        rw [ht]; omega
      · show (224 * (r.val % 8192 / 256) + r.val % 8192 % 256) % 224 = W - 1
        omega
    · rw [dif_neg hh, dif_neg (fun hk => hh (by
        have h1 := hk.1
        have h2 : r.val % 8192 % 256 < 224 := hk.2.1
        rw [hs] at h1
        omega))]
  · rw [dif_neg hc, dif_neg (fun hk => hc hk.2.2)]

end Cert.KernelIdeal.Conv
-- ==== Proof.TileValue.lean ====
/-
  What a convolving point computes, read at an index (exact reals): first for any three slabs and weights — a sum over the
  window's columns of a contraction over 384 rows —, then for the slabs of the padded image, where it is the convolution.
-/
module

public import proofs.«01_k».proof.Proof.ImageValue
public import Idealize.ShloMosaic.Lib.MatmulPlain

@[expose] public section

set_option maxRecDepth 16384

noncomputable section

namespace Cert.KernelIdeal.Conv

open Cert.KernelIdeal.Gen Cert.ConvSum
open Idealize.ShloMosaic Idealize.ShloMosaic.TcCoe Idealize.ShloMosaic.ValueIdx
open Idealize.SL.Sem

/-! ## Any slabs, any weights -/

/-- A contraction over the 384 rows into zeros: the sum of the products. -/
theorem product_apply (a : FVec Ideal S2072x384 .bf16) (b : FVec Ideal S384x96 .bf16) (r : Fin 2072) (o : Fin 96) :
    matmul dot_S2072x384_S384x96_S2072x96_1_0_0_1_n_n none a b (constant S2072x96 .f32 0x00000000#32) (ix2 r o)
      = ∑ k : Fin 384, a (ix2 r k) * b (ix2 k o) := by
  refine (Ideal.matmul_plain_apply (M := 2072) (K := 384) (N := 96) none a b _ r o).trans ?_
  show Ideal.ofBits .f32 0x00000000#32 + _ = _
  rw [Ideal.ofBits_zero_f32, zero_add]

/-- A matrix of the weights with its leading axis dropped. -/
theorem dropped_apply (v : Vec Ideal S1x384x96 .bf16) (k : Fin 384) (o : Fin 96) :
    shapeCast S384x96 v shapeCasts_S1x384x96_S384x96 (ix2 k o) = v (ix3 (0 : Fin 1) k o) := by
  refine shapeCast_apply v _ _ (ix3 (0 : Fin 1) k o) ?_
  rw [Shape.rowMajor_val_three, Shape.rowMajor_val_two]
  show (0 * 384 + k.val) * 96 + o.val = k.val * 96 + o.val
  omega

/-- The three slabs side by side: column `128 kh + ch` is slab `kh`'s channel `ch`. -/
theorem beside_apply (a : Fin 3 → Vec Ideal S2072x128 .bf16) (r : Fin 2072) (kh : Fin 3) (ch : Fin 128) :
    k0_pay35 (a 0) (a 1) (a 2) (ix2 r (⟨128 * kh.val + ch.val, by omega⟩ : Fin 384)) = a kh (ix2 r ch) := by
  refine concatenate_ofFn_apply (s₁ := S2072x128) (1 : Fin S2072x384.rank) (N := 3) a
    concatenates_S2072x128_S2072x128_S2072x128_S2072x384_d1 rfl 128 rfl
    (ix2 r (⟨128 * kh.val + ch.val, by omega⟩ : Fin 384)) kh ?_ (ix2 r ch) ?_ ?_
  · show (128 * kh.val + ch.val) / 128 = kh.val
    omega
  · show ch.val = (128 * kh.val + ch.val) % 128
    omega
  · exact fun b hb => by fin_cases b <;> first | rfl | exact absurd rfl hb

/-- The first two columns of the window, added into zeros: row `p` takes row `15 + p` of the first contraction and row
    `16 + p` of the second. -/
theorem two_apply (a0 a1 a2 : Vec Ideal S2072x128 .bf16) (v0 v1 : Vec Ideal S1x384x96 .bf16) (p : Fin 2048) (o : Fin 96) :
    k0_pay36 a0 a1 a2 v0 v1 (ix2 p o)
      = (∑ k : Fin 384, k0_pay35 a0 a1 a2 (ix2 (⟨15 + p.val, by omega⟩ : Fin 2072) k) * v0 (ix3 (0 : Fin 1) k o))
        + ∑ k : Fin 384, k0_pay35 a0 a1 a2 (ix2 (⟨16 + p.val, by omega⟩ : Fin 2072) k) * v1 (ix3 (0 : Fin 1) k o) := by
  show (Ideal.ofBits .f32 0x00000000#32
      + extractStridedSlice S2048x96 ![15, 0] (matmul dot_S2072x384_S384x96_S2072x96_1_0_0_1_n_n none (k0_pay35 a0 a1 a2)
          (shapeCast S384x96 v0 shapeCasts_S1x384x96_S384x96) (constant S2072x96 .f32 0x00000000#32))
          slices_S2072x96_o15_0_S2048x96 (ix2 p o))
      + extractStridedSlice S2048x96 ![16, 0] (matmul dot_S2072x384_S384x96_S2072x96_1_0_0_1_n_n none (k0_pay35 a0 a1 a2)
          (shapeCast S384x96 v1 shapeCasts_S1x384x96_S384x96) (constant S2072x96 .f32 0x00000000#32))
          slices_S2072x96_o16_0_S2048x96 (ix2 p o) = _
  rw [Ideal.ofBits_zero_f32, zero_add,
    extractStridedSlice_apply ![15, 0] _ _ (ix2 p o) (ix2 (⟨15 + p.val, by omega⟩ : Fin 2072) o)
      (fun a => by fin_cases a <;> first | rfl | exact (Nat.zero_add _).symm),
    extractStridedSlice_apply ![16, 0] _ _ (ix2 p o) (ix2 (⟨16 + p.val, by omega⟩ : Fin 2072) o)
      (fun a => by fin_cases a <;> first | rfl | exact (Nat.zero_add _).symm),
    product_apply, product_apply]
  exact congrArg₂ (· + ·) (Finset.sum_congr rfl fun k _ => congrArg (_ * ·) (dropped_apply v0 k o))
    (Finset.sum_congr rfl fun k _ => congrArg (_ * ·) (dropped_apply v1 k o))

/-- The third column of the window added to `v`, laid out as a tile: row `rr` and column `w` of output `o`. -/
theorem third_apply (b : FVec Ideal S2072x384 .bf16) (v : FVec Ideal S2048x96 .f32) (v2 : Vec Ideal S1x384x96 .bf16)
    (o : Fin 96) (rr : Fin 8) (w : Fin 224) :
    k0_pay2 b v v2 (ix4 (0 : Fin 1) o rr w)
      = v (ix2 (⟨256 * rr.val + w.val, by omega⟩ : Fin 2048) o)
        + ∑ k : Fin 384, b (ix2 (⟨17 + (256 * rr.val + w.val), by omega⟩ : Fin 2072) k) * v2 (ix3 (0 : Fin 1) k o) := by
  unfold k0_pay2
  dsimp only
  rw [shapeCast_apply _ _ (ix4 (0 : Fin 1) o rr w) (ix3 o rr w) (by
      rw [Shape.rowMajor_val_three, Shape.rowMajor_val_four]
      show (o.val * 8 + rr.val) * 224 + w.val = ((0 * 96 + o.val) * 8 + rr.val) * 224 + w.val
      omega),
    extractStridedSlice_apply ![0, 0, 0] _ _ (ix3 o rr w) (ix3 o rr (⟨w.val, by omega⟩ : Fin 256))
      (fun a => by fin_cases a <;> exact (Nat.zero_add _).symm),
    shapeCast_apply _ _ (ix3 o rr (⟨w.val, by omega⟩ : Fin 256)) (ix2 o (⟨256 * rr.val + w.val, by omega⟩ : Fin 2048)) (by
      rw [Shape.rowMajor_val_three, Shape.rowMajor_val_two]
      show o.val * 2048 + (256 * rr.val + w.val) = (o.val * 8 + rr.val) * 256 + w.val
      omega),
    transpose_apply [1, 0] _ _ (ix2 o (⟨256 * rr.val + w.val, by omega⟩ : Fin 2048))
      (ix2 (⟨256 * rr.val + w.val, by omega⟩ : Fin 2048) o) (fun b => by fin_cases b <;> rfl),
    ValueIdx.addf_apply,
    extractStridedSlice_apply ![17, 0] _ _ (ix2 (⟨256 * rr.val + w.val, by omega⟩ : Fin 2048) o)
      (ix2 (⟨17 + (256 * rr.val + w.val), by omega⟩ : Fin 2072) o)
      (fun a => by fin_cases a <;> first | rfl | exact (Nat.zero_add _).symm),
    product_apply]
  exact congrArg (_ + ·) (Finset.sum_congr rfl fun k _ => congrArg (_ * ·) (dropped_apply v2 k o))

/-- A sum over the 384 rows is three sums over 128 channels. -/
theorem sum_rows (f : Fin 384 → EReal) :
    ∑ k : Fin 384, f k = ∑ kh : Fin 3, ∑ ch : Fin 128, f ⟨128 * kh.val + ch.val, by omega⟩ := by
  rw [← Equiv.sum_comp (finProdFinEquiv (m := 3) (n := 128)) f, Fintype.sum_prod_type]
  refine Finset.sum_congr rfl fun kh _ => Finset.sum_congr rfl fun ch _ => congrArg f (Fin.ext ?_)
  show ch.val + 128 * kh.val = 128 * kh.val + ch.val
  omega

/-- A sum over 128 channels whose last 32 are zero is a sum over 96. -/
theorem sum_channels (f : Fin 128 → EReal) (h : ∀ ch : Fin 128, 96 ≤ ch.val → f ch = 0) :
    ∑ ch : Fin 128, f ch = ∑ ch : Fin 96, f ⟨ch.val, by omega⟩ := by
  rw [Fin.sum_univ_add (a := 96) (b := 32) f]
  rw [Finset.sum_eq_zero (s := (Finset.univ : Finset (Fin 32))) fun i _ => h _ (by
    show 96 ≤ (Fin.natAdd 96 i).val
    simp), add_zero]
  rfl

/-! ## The slabs of the padded image -/

variable (m : (ℓ : Loc nD τ sig) → Buf (Elt Ideal) ℓ)

/-- Where a convolving point's slabs begin. -/
theorem off_slab : ∀ t : Fin cfg0.N, 9 ≤ t.val % 37 → ∀ k : Fin 3,
    k0_off2 (grid0.coords t) (BitVec.ofNat 32 (256 * k.val)) = ![2048 * (t.val % 37 - 9) + 7920 + 256 * k.val, 0] :=
  (by decide +kernel : ∀ t : Fin grid0.N, 9 ≤ t.val % 37 → ∀ k : Fin 3,
    k0_off2 (grid0.coords t) (BitVec.ofNat 32 (256 * k.val)) = ![2048 * (t.val % 37 - 9) + 7920 + 256 * k.val, 0])

/-- A convolving point's slab `kh`, as loaded from the scratch. -/
abbrev slab (c : Dev nD) (t : Fin cfg0.N) (h : Convolves (grid0.coords t)) (kh : Fin 3) : Vec Ideal S2072x128 .bf16 :=
  View.ld (image m c (t.val / 37)) (slabRows (grid0.coords t) h kh)

/-- Slab `kh` at the row that window column `kw` takes for tile row `rr` and column `w`: the padded image's row
    `8 t + rr + kh` and column `w + kw`. -/
theorem slab_apply (c : Dev nD) (t : Fin cfg0.N) (h : Convolves (grid0.coords t)) (n : Fin 4) (hn : t.val / 37 = n.val)
    (ht : 9 ≤ t.val % 37) (kh kw : Fin 3) (rr : Fin 8) (w : Fin 224) (r : Fin 2072)
    (hr : r.val = 15 + kw.val + (256 * rr.val + w.val)) (ch : Fin 128) :
    slab m c t h kh (ix2 r ch) = if hc : ch.val < 96 then
      padded (images m c) n ⟨ch.val, hc⟩ (8 * (t.val % 37 - 9) + rr.val + kh.val) (w.val + kw.val) else 0 := by
  have ho := off_slab t ht kh
  rw [← image_apply m c n (⟨2048 * (t.val % 37 - 9) + 7920 + 256 * kh.val + r.val, by omega⟩ : Fin 73728) ch
    (8 * (t.val % 37 - 9) + rr.val + kh.val) (w.val + kw.val) (by omega) (by omega)
    (by show 2048 * (t.val % 37 - 9) + 7920 + 256 * kh.val + r.val + 1 = _; omega), ← hn]
  show image m c (t.val / 37) ((slabRows (grid0.coords t) h kh).emb (ix2 r ch)) = _
  refine congrArg _ (funext fun a => Fin.ext ?_)
  fin_cases a
  · show k0_off2 (grid0.coords t) (BitVec.ofNat 32 (256 * kh.val)) 0 + 1 * r.val = 2048 * (t.val % 37 - 9) + 7920 + 256 * kh.val + r.val
    rw [ho, Nat.one_mul]; rfl
  · show k0_off2 (grid0.coords t) (BitVec.ofNat 32 (256 * kh.val)) 1 + 1 * ch.val = ch.val
    rw [ho, Nat.one_mul]; exact Nat.zero_add _

/-- Window column `kw`'s matrix of the weights at a point, at row `128 kh + ch`. -/
theorem matrix_apply (c : Dev nD) (t : Fin cfg0.N) (kw : Fin 3)
    (inb : ∀ a, (![kw.val, 0, 0] : Fin 3 → ℕ) a + S1x384x96.size a ≤ S3x384x96.size a)
    (kh : Fin 3) (ch : Fin 128) (o : Fin 96) :
    (View.ld (iblk m c 1 t : Vec Ideal S3x384x96 .bf16)
      (Rect.unit (s := S3x384x96) ![kw.val, 0, 0] S1x384x96.size inb) : Vec Ideal S1x384x96 .bf16)
        (ix3 (0 : Fin 1) (⟨128 * kh.val + ch.val, by omega⟩ : Fin 384) o)
      = if h : ch.val < 96 then weights m c (ix4 o (⟨ch.val, h⟩ : Fin 96) kh kw) else 0 := by
  rw [← V_weights_apply m c kw kh ch o, ← block_weights m c t]
  show (iblk m c 1 t : Vec Ideal S3x384x96 .bf16) ((Rect.unit (s := S3x384x96) ![kw.val, 0, 0] S1x384x96.size inb).emb _) = _
  refine congrArg _ (funext fun a => Fin.ext ?_)
  fin_cases a
  · show kw.val + 1 * 0 = kw.val
    omega
  · show 0 + 1 * (128 * kh.val + ch.val) = 128 * kh.val + ch.val
    omega
  · show 0 + 1 * o.val = o.val
    omega

/-- One column of the window: the contraction over the 384 rows is the three places of that column. -/
theorem column (c : Dev nD) (t : Fin cfg0.N) (h : Convolves (grid0.coords t)) (n : Fin 4) (hn : t.val / 37 = n.val)
    (ht : 9 ≤ t.val % 37) (kw : Fin 3) (rr : Fin 8) (w : Fin 224) (r : Fin 2072)
    (hr : r.val = 15 + kw.val + (256 * rr.val + w.val)) (o : Fin 96)
    (inb : ∀ a, (![kw.val, 0, 0] : Fin 3 → ℕ) a + S1x384x96.size a ≤ S3x384x96.size a) :
    ∑ k : Fin 384, k0_pay35 (slab m c t h 0) (slab m c t h 1) (slab m c t h 2) (ix2 r k)
        * (View.ld (iblk m c 1 t : Vec Ideal S3x384x96 .bf16)
            (Rect.unit (s := S3x384x96) ![kw.val, 0, 0] S1x384x96.size inb) : Vec Ideal S1x384x96 .bf16) (ix3 (0 : Fin 1) k o)
      = ∑ kh : Fin 3, term (images m c) (weights m c) n o (8 * (t.val % 37 - 9) + rr.val) w.val kh kw := by
  rw [sum_rows]
  refine Finset.sum_congr rfl fun kh _ => ?_
  unfold term
  rw [sum_channels]
  · refine Finset.sum_congr rfl fun ch _ => ?_
    rw [beside_apply (slab m c t h) r kh, slab_apply m c t h n hn ht kh kw rr w r hr, matrix_apply, dif_pos ch.isLt,
      dif_pos ch.isLt]
  · intro ch hc
    rw [beside_apply (slab m c t h) r kh, slab_apply m c t h n hn ht kh kw rr w r hr, dif_neg (by omega), zero_mul]

/-- A convolving point's tile is the convolution on its eight rows. -/
theorem tile_apply (c : Dev nD) (t : Fin cfg0.N) (n : Fin 4) (hn : t.val / 37 = n.val) (ht : 9 ≤ t.val % 37)
    (o : Fin 96) (rr : Fin 8) (w : Fin 224) :
    tile m c t (ix4 (0 : Fin 1) o rr w)
      = ∑ kw : Fin 3, ∑ kh : Fin 3,
          term (images m c) (weights m c) n o (8 * (t.val % 37 - 9) + rr.val) w.val kh kw := by
  have h : Convolves (grid0.coords t) := (convolves_iff t).mpr ht
  unfold tile
  rw [dif_pos h]
  show k0_pay2 (k0_pay35 (slab m c t h 0) (slab m c t h 1) (slab m c t h 2)) _ _ _ = _
  rw [third_apply, two_apply, Fin.sum_univ_three]
  exact congrArg₂ (· + ·) (congrArg₂ (· + ·)
    (column m c t h n hn ht 0 rr w _ (by show 15 + (256 * rr.val + w.val) = 15 + 0 + _; omega) o _)
    (column m c t h n hn ht 1 rr w _ (by show 16 + (256 * rr.val + w.val) = 15 + 1 + _; omega) o _))
    (column m c t h n hn ht 2 rr w _ (by show 17 + (256 * rr.val + w.val) = 15 + 2 + _; omega) o _)

end Cert.KernelIdeal.Conv
-- ==== Proof.ArrayValue.lean ====
/-
  What the result array holds at the end (exact reals): the convolution. Every convolving point's write-back is a tile of
  it, and the tiles cover it.
-/
module

public import proofs.«01_k».proof.Proof.TileValue

@[expose] public section

set_option maxRecDepth 16384

noncomputable section

namespace Cert.KernelIdeal.Conv

open Cert.KernelIdeal.Gen Cert.ConvSum
open Idealize.ShloMosaic Idealize.ShloMosaic.TcCoe Idealize.ShloMosaic.ValueIdx
open Idealize.SL.Sem

variable (m : (ℓ : Loc nD τ sig) → Buf (Elt Ideal) ℓ)

/-- The convolution of the arguments, as contents of the result array. -/
abbrev result (c : Dev nD) : Buf (Elt Ideal) ((c : Thread nD τ).loc main_v6) := conv (images m c) (weights m c)

/-- The tile of a convolving point: its batch entry, every output, eight rows, every column. -/
theorem index_out : ∀ t : Fin cfg0.N, 9 ≤ t.val % 37 →
    (win0 2).index t 0 = t.val / 37 ∧ (win0 2).index t 1 = 0 ∧ (win0 2).index t 2 = t.val % 37 - 9
      ∧ (win0 2).index t 3 = 0 :=
  (by decide +kernel : ∀ t : Fin grid0.N, 9 ≤ t.val % 37 →
    (win0 2).index t 0 = t.val / 37 ∧ (win0 2).index t 1 = 0 ∧ (win0 2).index t 2 = t.val % 37 - 9
      ∧ (win0 2).index t 3 = 0)

/-- What a point writes back is its tile of the convolution. -/
theorem flushed_eq (c : Dev nD) (t : Fin cfg0.N) (hf : (cfg0.win 2).flush t = true) :
    (dats m 0 c).flushed 2 t = ((cfg0.win 2).blk t).view.read (Elt Ideal) (result m c) := by
  have hN := lt_of_lt_of_eq t.isLt (show cfg0.N = 148 from N_0)
  have ht : 9 ≤ t.val % 37 := (flush_out t).mp hf
  obtain ⟨i0, i1, i2, i3⟩ := index_out t ht
  show (cfg0.win 2).cut (grid0.coords t) ((dats m 0 c).after 2 t) = _
  rw [after_out]
  funext y
  have h0 : (y 0).val < 1 := (y 0).isLt
  have h1 : (y 1).val < 96 := (y 1).isLt
  have h2 : (y 2).val < 8 := (y 2).isLt
  have h3 : (y 3).val < 224 := (y 3).isLt
  have hy : y = ix4 (0 : Fin 1) (⟨(y 1).val, h1⟩ : Fin 96) (⟨(y 2).val, h2⟩ : Fin 8) (⟨(y 3).val, h3⟩ : Fin 224) := by
    funext a; apply Fin.ext
    fin_cases a
    · show (y 0).val = 0; omega
    · rfl
    · rfl
    · rfl
  have e : ((win0 2).rect t).emb y = ix4 (⟨t.val / 37, by omega⟩ : Fin 4) (⟨(y 1).val, h1⟩ : Fin 96)
      (⟨8 * (t.val % 37 - 9) + (y 2).val, by omega⟩ : Fin 224) (⟨(y 3).val, h3⟩ : Fin 224) := by
    funext a; apply Fin.ext
    rw [Pipeline.Window.rect_emb_val (win0 2)]
    fin_cases a
    · show (win0 2).index t 0 * 1 + (y 0).val = t.val / 37
      rw [i0]; omega
    · show (win0 2).index t 1 * 96 + (y 1).val = (y 1).val
      rw [i1]; omega
    · show (win0 2).index t 2 * 8 + (y 2).val = 8 * (t.val % 37 - 9) + (y 2).val
      rw [i2]; omega
    · show (win0 2).index t 3 * 224 + (y 3).val = (y 3).val
      rw [i3]; omega
  show tile m c t y = conv (images m c) (weights m c) (((win0 2).rect t).emb y)
  rw [e]
  refine (congrArg (tile m c t) hy).trans ?_
  exact tile_apply m c t (⟨t.val / 37, by omega⟩ : Fin 4) rfl ht (⟨(y 1).val, h1⟩ : Fin 96) (⟨(y 2).val, h2⟩ : Fin 8)
    (⟨(y 3).val, h3⟩ : Fin 224)

/-- Every element of the result is in some convolving point's tile. -/
theorem covered (i : S4x96x224x224.Idx) :
    ∃ t : Fin cfg0.N, (cfg0.win 2).flush t = true ∧ i ∈ ((cfg0.win 2).blk t).view.set := by
  have h0 : (i 0).val < 4 := (i 0).isLt
  have h1 : (i 1).val < 96 := (i 1).isLt
  have h2 : (i 2).val < 224 := (i 2).isLt
  have h3 : (i 3).val < 224 := (i 3).isLt
  let t : Fin cfg0.N := pt (i 0).val (9 + (i 2).val / 8)
  have htv : t.val = 37 * (i 0).val + (9 + (i 2).val / 8) := by
    show (37 * (i 0).val + (9 + (i 2).val / 8)) % 148 = _
    omega
  have ht : 9 ≤ t.val % 37 := by omega
  obtain ⟨i0, i1, i2, i3⟩ := index_out t ht
  refine ⟨t, (flush_out t).mpr ht, ?_⟩
  show i ∈ ((View.whole main_v6).slice ((win0 2).rect t)).set
  rw [View.set_slice_whole, ← Rect.map_emb_univ]
  refine Finset.mem_map.mpr ⟨ix4 (0 : Fin 1) (⟨(i 1).val, h1⟩ : Fin 96) (⟨(i 2).val % 8, by omega⟩ : Fin 8)
    (⟨(i 3).val, h3⟩ : Fin 224), Finset.mem_univ _, ?_⟩
  funext a; apply Fin.ext
  rw [Pipeline.Window.rect_emb_val (win0 2)]
  fin_cases a
  · show (win0 2).index t 0 * 1 + 0 = (i 0).val
    rw [i0]; omega
  · show (win0 2).index t 1 * 96 + (i 1).val = (i 1).val
    rw [i1]; omega
  · show (win0 2).index t 2 * 8 + (i 2).val % 8 = (i 2).val
    rw [i2]; omega
  · show (win0 2).index t 3 * 224 + (i 3).val = (i 3).val
    rw [i3]; omega

/-- The result array ends holding the convolution. -/
theorem array_eq (c : Dev nD) : (dats m 0 c).arrAt 2 cfg0.N = result m c :=
  (dats m 0 c).arrAt_eq_of_cover 2 (result m c) (flushed_eq m c) covered

end Cert.KernelIdeal.Conv
-- ==== Proof.ReferenceValue.lean ====
/-
  What the reference computes, read at an index (exact reals): each of its nine summands is one place of the window, and
  their sum is the convolution.
-/
module

public import proofs.«01_k».proof.Proof.Gen.ReferenceIdeal.Read
public import proofs.«01_k».proof.Proof.Sum
public import Idealize.ShloMosaic.Lib.KernelVsHost

@[expose] public section

set_option maxRecDepth 16384

noncomputable section

namespace Cert.ReferenceIdeal.Conv

open Cert.ReferenceIdeal Cert.ReferenceIdeal.Gen Cert.ReferenceIdeal.Read Cert.ConvSum
open Idealize.ShloMosaic Idealize.ShloMosaic.ValueIdx

variable (x : (⟨S4x96x224x224, .f32⟩ : BufTy).Contents (Elt Ideal)) (y : (⟨S96x96x3x3, .f32⟩ : BufTy).Contents (Elt Ideal))

/-- The padded images. -/
theorem padded_apply (j : S4x96x226x226.Idx) :
    val_main_v0 (F := Ideal) x j = padded x (⟨(j 0).val, (j 0).isLt⟩ : Fin 4) (⟨(j 1).val, (j 1).isLt⟩ : Fin 96) (j 2).val (j 3).val := by
  have h2 : (j 2).val < 226 := (j 2).isLt
  have h3 : (j 3).val < 226 := (j 3).isLt
  unfold val_main_v0 padded
  by_cases hh : (1 ≤ (j 2).val ∧ (j 2).val ≤ 224) ∧ 1 ≤ (j 3).val ∧ (j 3).val ≤ 224
  · rw [dif_pos hh]
    refine pad_apply_of_inside ![0, 0, 1, 1] ![0, 0, 1, 1] ![0, 0, 0, 0] x _ _ _ j _ fun a => ?_
    fin_cases a
    · show (j 0).val = 0 + (j 0).val * (0 + 1); omega
    · show (j 1).val = 0 + (j 1).val * (0 + 1); omega
    · show (j 2).val = 1 + ((j 2).val - 1) * (0 + 1); omega
    · show (j 3).val = 1 + ((j 3).val - 1) * (0 + 1); omega
  · rw [dif_neg hh]
    have hz : val_main_call0_v0 (F := Ideal) (Shape.Idx.first h_S_) = 0 := sitofp_zero (φ := .f32)
    by_cases hr : 1 ≤ (j 2).val ∧ (j 2).val ≤ 224
    · refine (pad_apply_of_not_inside ![0, 0, 1, 1] ![0, 0, 1, 1] ![0, 0, 0, 0] x _ _ _ j (3 : Fin 4) fun hk => ?_).trans hz
      have e1 : 1 ≤ (j 3).val := hk.1
      have e2 : ((j 3).val - 1) / (0 + 1) < 224 := hk.2.2
      omega
    · refine (pad_apply_of_not_inside ![0, 0, 1, 1] ![0, 0, 1, 1] ![0, 0, 0, 0] x _ _ _ j (2 : Fin 4) fun hk => ?_).trans hz
      have e1 : 1 ≤ (j 2).val := hk.1
      have e2 : ((j 2).val - 1) / (0 + 1) < 224 := hk.2.2
      omega

/-- A product of a padded pixel and a weight, at indices given by their coordinates. -/
theorem product_eq (i : S4x96x224x224.Idx) (kh kw : Fin 3) (ch : Fin 96) (j : S4x96x226x226.Idx) (k : S96x96x3x3.Idx)
    (j0 : (j 0).val = (i 0).val) (j1 : (j 1).val = ch.val) (j2 : (j 2).val = (i 2).val + kh.val)
    (j3 : (j 3).val = (i 3).val + kw.val) (k0 : (k 0).val = (i 1).val) (k1 : (k 1).val = ch.val)
    (k2 : (k 2).val = kh.val) (k3 : (k 3).val = kw.val) :
    val_main_v0 (F := Ideal) x j * y k
      = padded x (i 0) ch ((i 2).val + kh.val) ((i 3).val + kw.val) * y (ix4 (i 1) ch kh kw) := by
  rw [padded_apply, j2, j3]
  refine congrArg₂ (· * ·) (congrArg₂ (fun a b => padded x a b _ _) (Fin.ext j0) (Fin.ext j1)) (congrArg y (funext fun a => Fin.ext ?_))
  fin_cases a
  · exact k0
  · exact k1
  · exact k2
  · exact k3

/-- The summand of window place 0, 0. -/
theorem place_0_0 (i : S4x96x224x224.Idx) :
    val_main_v6 (F := Ideal) x y i = term x y (i 0) (i 1) (i 2).val (i 3).val 0 0 := by
  have h1 : (i 1).val < 96 := (i 1).isLt
  rw [val_main_v6_apply, val_main_v5_apply]
  refine Finset.sum_congr rfl fun ch _ => ?_
  have hc : ch.val < 96 := ch.isLt
  rw [val_main_v4_apply, val_main_v3_apply, val_main_v2_apply]
  refine product_eq x y i 0 0 ch _ _ rfl rfl ?_ ?_ ?_ ?_ ?_ ?_
  · show (i 2).val = (i 2).val + 0
    omega
  · show (i 3).val = (i 3).val + 0
    omega
  · show ((i 1).val * 96 + ch.val) / 96 = (i 1).val
    omega
  · show ((i 1).val * 96 + ch.val) / 1 % 96 = ch.val
    omega
  · rfl
  · rfl

/-- The summand of window place 0, 1. -/
theorem place_0_1 (i : S4x96x224x224.Idx) :
    val_main_v12 (F := Ideal) x y i = term x y (i 0) (i 1) (i 2).val (i 3).val 0 1 := by
  have h1 : (i 1).val < 96 := (i 1).isLt
  rw [val_main_v12_apply, val_main_v11_apply]
  refine Finset.sum_congr rfl fun ch _ => ?_
  have hc : ch.val < 96 := ch.isLt
  rw [val_main_v10_apply, val_main_v9_apply, val_main_v8_apply]
  refine product_eq x y i 0 1 ch _ _ rfl rfl ?_ ?_ ?_ ?_ ?_ ?_
  · show (i 2).val = (i 2).val + 0
    omega
  · show 1 + (i 3).val = (i 3).val + 1
    omega
  · show ((i 1).val * 96 + ch.val) / 96 = (i 1).val
    omega
  · show ((i 1).val * 96 + ch.val) / 1 % 96 = ch.val
    omega
  · rfl
  · rfl

/-- The summand of window place 0, 2. -/
theorem place_0_2 (i : S4x96x224x224.Idx) :
    val_main_v18 (F := Ideal) x y i = term x y (i 0) (i 1) (i 2).val (i 3).val 0 2 := by
  have h1 : (i 1).val < 96 := (i 1).isLt
  rw [val_main_v18_apply, val_main_v17_apply]
  refine Finset.sum_congr rfl fun ch _ => ?_
  have hc : ch.val < 96 := ch.isLt
  rw [val_main_v16_apply, val_main_v15_apply, val_main_v14_apply]
  refine product_eq x y i 0 2 ch _ _ rfl rfl ?_ ?_ ?_ ?_ ?_ ?_
  · show (i 2).val = (i 2).val + 0
    omega
  · show 2 + (i 3).val = (i 3).val + 2
    omega
  · show ((i 1).val * 96 + ch.val) / 96 = (i 1).val
    omega
  · show ((i 1).val * 96 + ch.val) / 1 % 96 = ch.val
    omega
  · rfl
  · rfl

/-- The summand of window place 1, 0. -/
theorem place_1_0 (i : S4x96x224x224.Idx) :
    val_main_v24 (F := Ideal) x y i = term x y (i 0) (i 1) (i 2).val (i 3).val 1 0 := by
  have h1 : (i 1).val < 96 := (i 1).isLt
  rw [val_main_v24_apply, val_main_v23_apply]
  refine Finset.sum_congr rfl fun ch _ => ?_
  have hc : ch.val < 96 := ch.isLt
  rw [val_main_v22_apply, val_main_v21_apply, val_main_v20_apply]
  refine product_eq x y i 1 0 ch _ _ rfl rfl ?_ ?_ ?_ ?_ ?_ ?_
  · show 1 + (i 2).val = (i 2).val + 1
    omega
  · show (i 3).val = (i 3).val + 0
    omega
  · show ((i 1).val * 96 + ch.val) / 96 = (i 1).val
    omega
  · show ((i 1).val * 96 + ch.val) / 1 % 96 = ch.val
    omega
  · rfl
  · rfl

/-- The summand of window place 1, 1. -/
theorem place_1_1 (i : S4x96x224x224.Idx) :
    val_main_v30 (F := Ideal) x y i = term x y (i 0) (i 1) (i 2).val (i 3).val 1 1 := by
  have h1 : (i 1).val < 96 := (i 1).isLt
  rw [val_main_v30_apply, val_main_v29_apply]
  refine Finset.sum_congr rfl fun ch _ => ?_
  have hc : ch.val < 96 := ch.isLt
  rw [val_main_v28_apply, val_main_v27_apply, val_main_v26_apply]
  refine product_eq x y i 1 1 ch _ _ rfl rfl ?_ ?_ ?_ ?_ ?_ ?_
  · show 1 + (i 2).val = (i 2).val + 1
    omega
  · show 1 + (i 3).val = (i 3).val + 1
    omega
  · show ((i 1).val * 96 + ch.val) / 96 = (i 1).val
    omega
  · show ((i 1).val * 96 + ch.val) / 1 % 96 = ch.val
    omega
  · rfl
  · rfl

/-- The summand of window place 1, 2. -/
theorem place_1_2 (i : S4x96x224x224.Idx) :
    val_main_v36 (F := Ideal) x y i = term x y (i 0) (i 1) (i 2).val (i 3).val 1 2 := by
  have h1 : (i 1).val < 96 := (i 1).isLt
  rw [val_main_v36_apply, val_main_v35_apply]
  refine Finset.sum_congr rfl fun ch _ => ?_
  have hc : ch.val < 96 := ch.isLt
  rw [val_main_v34_apply, val_main_v33_apply, val_main_v32_apply]
  refine product_eq x y i 1 2 ch _ _ rfl rfl ?_ ?_ ?_ ?_ ?_ ?_
  · show 1 + (i 2).val = (i 2).val + 1
    omega
  · show 2 + (i 3).val = (i 3).val + 2
    omega
  · show ((i 1).val * 96 + ch.val) / 96 = (i 1).val
    omega
  · show ((i 1).val * 96 + ch.val) / 1 % 96 = ch.val
    omega
  · rfl
  · rfl

/-- The summand of window place 2, 0. -/
theorem place_2_0 (i : S4x96x224x224.Idx) :
    val_main_v42 (F := Ideal) x y i = term x y (i 0) (i 1) (i 2).val (i 3).val 2 0 := by
  have h1 : (i 1).val < 96 := (i 1).isLt
  rw [val_main_v42_apply, val_main_v41_apply]
  refine Finset.sum_congr rfl fun ch _ => ?_
  have hc : ch.val < 96 := ch.isLt
  rw [val_main_v40_apply, val_main_v39_apply, val_main_v38_apply]
  refine product_eq x y i 2 0 ch _ _ rfl rfl ?_ ?_ ?_ ?_ ?_ ?_
  · show 2 + (i 2).val = (i 2).val + 2
    omega
  · show (i 3).val = (i 3).val + 0
    omega
  · show ((i 1).val * 96 + ch.val) / 96 = (i 1).val
    omega
  · show ((i 1).val * 96 + ch.val) / 1 % 96 = ch.val
    omega
  · rfl
  · rfl

/-- The summand of window place 2, 1. -/
theorem place_2_1 (i : S4x96x224x224.Idx) :
    val_main_v48 (F := Ideal) x y i = term x y (i 0) (i 1) (i 2).val (i 3).val 2 1 := by
  have h1 : (i 1).val < 96 := (i 1).isLt
  rw [val_main_v48_apply, val_main_v47_apply]
  refine Finset.sum_congr rfl fun ch _ => ?_
  have hc : ch.val < 96 := ch.isLt
  rw [val_main_v46_apply, val_main_v45_apply, val_main_v44_apply]
  refine product_eq x y i 2 1 ch _ _ rfl rfl ?_ ?_ ?_ ?_ ?_ ?_
  · show 2 + (i 2).val = (i 2).val + 2
    omega
  · show 1 + (i 3).val = (i 3).val + 1
    omega
  · show ((i 1).val * 96 + ch.val) / 96 = (i 1).val
    omega
  · show ((i 1).val * 96 + ch.val) / 1 % 96 = ch.val
    omega
  · rfl
  · rfl

/-- The summand of window place 2, 2. -/
theorem place_2_2 (i : S4x96x224x224.Idx) :
    val_main_v54 (F := Ideal) x y i = term x y (i 0) (i 1) (i 2).val (i 3).val 2 2 := by
  have h1 : (i 1).val < 96 := (i 1).isLt
  rw [val_main_v54_apply, val_main_v53_apply]
  refine Finset.sum_congr rfl fun ch _ => ?_
  have hc : ch.val < 96 := ch.isLt
  rw [val_main_v52_apply, val_main_v51_apply, val_main_v50_apply]
  refine product_eq x y i 2 2 ch _ _ rfl rfl ?_ ?_ ?_ ?_ ?_ ?_
  · show 2 + (i 2).val = (i 2).val + 2
    omega
  · show 2 + (i 3).val = (i 3).val + 2
    omega
  · show ((i 1).val * 96 + ch.val) / 96 = (i 1).val
    omega
  · show ((i 1).val * 96 + ch.val) / 1 % 96 = ch.val
    omega
  · rfl
  · rfl

/-- The reference is the convolution. -/
theorem reference_eq : val_main_v55 (F := Ideal) x y = conv x y := by
  funext i
  have hz : val_main_v1 (F := Ideal) i = 0 := by
    rw [val_main_v1_apply]; exact Ideal.ofBits_zero_f32
  have e : val_main_v55 (F := Ideal) x y i = ((((((((val_main_v1 (F := Ideal) i + val_main_v6 (F := Ideal) x y i)
      + val_main_v12 (F := Ideal) x y i) + val_main_v18 (F := Ideal) x y i) + val_main_v24 (F := Ideal) x y i)
      + val_main_v30 (F := Ideal) x y i) + val_main_v36 (F := Ideal) x y i) + val_main_v42 (F := Ideal) x y i)
      + val_main_v48 (F := Ideal) x y i) + val_main_v54 (F := Ideal) x y i := rfl
  rw [e, hz, zero_add, place_0_0, place_0_1, place_0_2, place_1_0, place_1_1, place_1_2, place_2_0, place_2_1, place_2_2]
  unfold conv
  rw [Finset.sum_comm]
  simp only [Fin.sum_univ_three, add_assoc]

end Cert.ReferenceIdeal.Conv
-- ==== Proof.SameText.lean ====
/-
  The kernel as compiled and the kernel read over the exact reals are one text: at any one reading of the floats their body
  tables and their programs are equal. So the frame proved of the second at any reading holds of the first.
-/
module

public import proofs.«01_k».proof.Proof.Launch
public import proofs.«01_k».proof.Proof.Gen.Kernel

@[expose] public section

set_option maxRecDepth 16384

noncomputable section

namespace Cert.Kernel.Conv

open Idealize.ShloMosaic Idealize.ShloMosaic.TcCoe Idealize.SL.Sem Cert.Kernel

variable {F : FTy → Type} [FloatOps F]

/-- The two body tables of the kernels agree. -/
theorem bodies_eq : Cert.KernelIdeal.defs₀ (F := F) = defs₀ := by
  unfold Cert.KernelIdeal.defs₀ defs₀
  refine congrArg Defs.onTc (funext fun l => funext fun a => ?_)
  match l, a with
  | 0, (_, _) => rfl

/-- So do the body tables with the pipeline's. -/
theorem defs_eq : Cert.KernelIdeal.defs (F := F) = defs := congrArg (Pipeline.defs _) bodies_eq

/-- So do the two programs. -/
theorem main_eq : Cert.KernelIdeal.main (F := F) = main := rfl

/-- The kernel runs to the end, leaves its arguments unchanged and every counter at zero, however the floats are read. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h := Cert.KernelIdeal.Conv.frame (F := F) m ρ
  rw [defs_eq, main_eq] at h
  exact h

end Cert.Kernel.Conv

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.ArrayValue
public import proofs.«01_k».proof.Proof.ReferenceValue
public import proofs.«01_k».proof.Proof.SameText
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as compiled runs to the end, leaves its arguments unchanged and every counter at zero. -/
theorem frame_kernel : Cert.quiescent_Kernel := fun m g _ => Cert.Kernel.Conv.frame m g

/-- So does the kernel over the exact reals. -/
theorem frame_ideal : Cert.quiescent_KernelIdeal := fun m g _ => Cert.KernelIdeal.Conv.frame m g

/-- So does the reference over the exact reals; it has no counters. -/
theorem frame_reference : Cert.quiescent_ReferenceIdeal := fun m g _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- Over the exact reals the kernel and the reference end with equal results: both are the convolution. -/
theorem equal_results : Cert.algebraic_KernelIdeal_ReferenceIdeal := by
  intro m g m' g' _ hargs
  refine ⟨fun c => Cert.KernelIdeal.Conv.result m c, ?_, ?_⟩
  · have args := (θ_run Cert.KernelIdeal.defs _ _).mono (fun _ h => h.1) (Cert.KernelIdeal.Conv.frame (F := Ideal) m g)
    refine (θ_run Cert.KernelIdeal.defs _ _).mono (fun r h c => ⟨?_, h.2 c⟩)
      (θ_run_and (Cert.KernelIdeal.Conv.run_main (F := Ideal) m g) args)
    exact ((h.1.1 c).1 (2 : Fin 3)).trans (Cert.KernelIdeal.Conv.array_eq m c)
  · refine (θ_run Cert.ReferenceIdeal.defs _ _).mono (fun r h c => ⟨(h c).1.trans ?_, (h c).2⟩)
      (Cert.ReferenceIdeal.Value.run (F := Ideal) m' g')
    rw [Cert.ReferenceIdeal.Read.val_main_v55_eq, Cert.ReferenceIdeal.Conv.reference_eq]
    exact congrArg₂ Cert.ConvSum.conv (hargs c).1 (hargs c).2

/-- Every claim of the certificate. -/
theorem claim : Cert.Claim := ⟨Cert.Kernel.Gen.facts, Cert.KernelIdeal.Gen.facts, Cert.ReferenceIdeal.Gen.facts,
  frame_kernel, frame_ideal, frame_reference, trivial, equal_results⟩

end Cert.Proof

end
